-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x8192 : Shape := ⟨3, ![32, 1, 8192]⟩
abbrev S8192x22528 : Shape := ⟨2, ![8192, 22528]⟩
abbrev S128x45056 : Shape := ⟨2, ![128, 45056]⟩
abbrev S16 : Shape := ⟨1, ![16]⟩
abbrev S8 : Shape := ⟨1, ![8]⟩
abbrev S16x1 : Shape := ⟨2, ![16, 1]⟩
abbrev S16x128 : Shape := ⟨2, ![16, 128]⟩
abbrev S32x8192 : Shape := ⟨2, ![32, 8192]⟩
abbrev S32x45056 : Shape := ⟨2, ![32, 45056]⟩
abbrev S8192x256 : Shape := ⟨2, ![8192, 256]⟩
abbrev S128x512 : Shape := ⟨2, ![128, 512]⟩
abbrev S32x512 : Shape := ⟨2, ![32, 512]⟩
abbrev S16x8x256 : Shape := ⟨3, ![16, 8, 256]⟩
abbrev S8x128 : Shape := ⟨2, ![8, 128]⟩
abbrev S8x128x1 : Shape := ⟨3, ![8, 128, 1]⟩
abbrev S1x8x128 : Shape := ⟨3, ![1, 8, 128]⟩
abbrev S32x256 : Shape := ⟨2, ![32, 256]⟩
abbrev S1x1x128 : Shape := ⟨3, ![1, 1, 128]⟩
abbrev S1x128 : Shape := ⟨2, ![1, 128]⟩
abbrev S32x128 : Shape := ⟨2, ![32, 128]⟩
abbrev S16x128x1 : Shape := ⟨3, ![16, 128, 1]⟩
abbrev S32x1024 : Shape := ⟨2, ![32, 1024]⟩
abbrev S1024x128 : Shape := ⟨2, ![1024, 128]⟩
abbrev S1024x256 : Shape := ⟨2, ![1024, 256]⟩
abbrev S32x1x45056 : Shape := ⟨3, ![32, 1, 45056]⟩

abbrev nBuf : Space → Nat
  | .hbm => 12
  | .vmem => 11
  | .smem => 0
  | _ => 0

abbrev bufTy : (tb : Table) → Fin (tcTables nBuf tb) → BufTy
  | .hbm, ⟨0, _⟩ => ⟨S32x1x8192, .bf16⟩
  | .hbm, ⟨1, _⟩ => ⟨S8192x22528, .i8⟩
  | .hbm, ⟨2, _⟩ => ⟨S128x45056, .f32⟩
  | .hbm, ⟨3, _⟩ => ⟨S16, .f32⟩
  | .hbm, ⟨4, _⟩ => ⟨S8, .f32⟩
  | .hbm, ⟨5, _⟩ => ⟨S8, .f32⟩
  | .hbm, ⟨6, _⟩ => ⟨S16, .f32⟩
  | .hbm, ⟨7, _⟩ => ⟨S16x1, .f32⟩
  | .hbm, ⟨8, _⟩ => ⟨S16x128, .f32⟩
  | .hbm, ⟨9, _⟩ => ⟨S32x8192, .bf16⟩
  | .hbm, ⟨10, _⟩ => ⟨S32x45056, .bf16⟩
  | .hbm, ⟨11, _⟩ => ⟨S32x1x45056, .bf16⟩
  | .local _ .vmem, ⟨0, _⟩ => ⟨S32x8192, .bf16⟩
  | .local _ .vmem, ⟨1, _⟩ => ⟨S16x128, .f32⟩
  | .local _ .vmem, ⟨2, _⟩ => ⟨S8192x256, .i8⟩
  | .local _ .vmem, ⟨3, _⟩ => ⟨S8192x256, .i8⟩
  | .local _ .vmem, ⟨4, _⟩ => ⟨S128x512, .f32⟩
  | .local _ .vmem, ⟨5, _⟩ => ⟨S128x512, .f32⟩
  | .local _ .vmem, ⟨6, _⟩ => ⟨S32x512, .bf16⟩
  | .local _ .vmem, ⟨7, _⟩ => ⟨S32x512, .bf16⟩
  | .local _ .vmem, ⟨8, _⟩ => ⟨S32x8192, .bf16⟩
  | .local _ .vmem, ⟨9, _⟩ => ⟨S16x8x256, .f32⟩
  | .local _ .vmem, ⟨10, _⟩ => ⟨S16x8x256, .f32⟩
  | _, _ => ⟨S32x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![88], ![false]⟩

@[reducible] def k0_t1_loop : Scf.Loop 32 :=
  let c0_i32_302 : BitVec 32 := 0#32
  let c8_i32 : BitVec 32 := 8#32
  let v653 : BitVec 32 := Scalar.addi c0_i32_302 c8_i32
  let c1_i32_303 : BitVec 32 := 1#32
  ⟨c0_i32_302, v653, c1_i32_303⟩
def k0_mult1 (k0_t1 : Fin k0_t1_loop.trips) : BitVec 32 :=
  let c0_i32_302 : BitVec 32 := 0#32
  let c1_i32_303 : BitVec 32 := 1#32
  let arg9 : BitVec 32 := Scf.iv c0_i32_302 c1_i32_303 k0_t1
  let c1024_i32 : BitVec 32 := 1024#32
  let v1203 : BitVec 32 := Scalar.muli arg9 c1024_i32
  v1203
def k0_off1 (k0_t1 : Fin k0_t1_loop.trips) (c0_i32_458 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1206 : BitVec 32 := Scalar.addi v1205 c0_i32_458
  let v1207 : Index := Scalar.indexCast v1206
  let c0_459 : Index := 0#32
  let c0_460 : Index := 0#32
  ![v1207.toNat, 0, 0]
def k0_off2 (k0_t1 : Fin k0_t1_loop.trips) (c0_i32_464 : BitVec 32) (c0_i32_465 : BitVec 32) : Fin 2 → Nat :=
  let c0_i32_302 : BitVec 32 := 0#32
  let c1_i32_303 : BitVec 32 := 1#32
  let arg9 : BitVec 32 := Scf.iv c0_i32_302 c1_i32_303 k0_t1
  let c1024_i32 : BitVec 32 := 1024#32
  let v1203 : BitVec 32 := Scalar.muli arg9 c1024_i32
  let v1204 : BitVec 32 := v1203
  let v1226 : BitVec 32 := Scalar.addi v1204 c0_i32_464
  let v1227 : BitVec 32 := Scalar.addi v1226 c0_i32_465
  let v1228 : Index := Scalar.indexCast v1227
  let c0_466 : Index := 0#32
  ![v1228.toNat, 0]
def k0_off3 (k0_t1 : Fin k0_t1_loop.trips) (c0_i32_489 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1316 : BitVec 32 := Scalar.addi v1205 c0_i32_489
  let v1317 : Index := Scalar.indexCast v1316
  let c0_490 : Index := 0#32
  let c128_491 : Index := 128#32
  ![v1317.toNat, 0, 128]
def k0_off4 (k0_t1 : Fin k0_t1_loop.trips) (c0_i32_495 : BitVec 32) (c0_i32_496 : BitVec 32) : Fin 2 → Nat :=
  let c0_i32_302 : BitVec 32 := 0#32
  let c1_i32_303 : BitVec 32 := 1#32
  let arg9 : BitVec 32 := Scf.iv c0_i32_302 c1_i32_303 k0_t1
  let c1024_i32 : BitVec 32 := 1024#32
  let v1203 : BitVec 32 := Scalar.muli arg9 c1024_i32
  let v1204 : BitVec 32 := v1203
  let v1336 : BitVec 32 := Scalar.addi v1204 c0_i32_495
  let v1337 : BitVec 32 := Scalar.addi v1336 c0_i32_496
  let v1338 : Index := Scalar.indexCast v1337
  let c128_497 : Index := 128#32
  ![v1338.toNat, 128]
def k0_off5 (k0_t1 : Fin k0_t1_loop.trips) (c0_i32_525 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1426 : BitVec 32 := Scalar.addi v1205 c0_i32_525
  let v1427 : Index := Scalar.indexCast v1426
  let c1_526 : Index := 1#32
  let c0_527 : Index := 0#32
  ![v1427.toNat, 1, 0]
def k0_off6 (k0_t1 : Fin k0_t1_loop.trips) (c0_i32_561 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1536 : BitVec 32 := Scalar.addi v1205 c0_i32_561
  let v1537 : Index := Scalar.indexCast v1536
  let c1_562 : Index := 1#32
  let c128_563 : Index := 128#32
  ![v1537.toNat, 1, 128]
def k0_off7 (k0_t1 : Fin k0_t1_loop.trips) (c0_i32_597 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1646 : BitVec 32 := Scalar.addi v1205 c0_i32_597
  let v1647 : Index := Scalar.indexCast v1646
  let c2_598 : Index := 2#32
  let c0_599 : Index := 0#32
  ![v1647.toNat, 2, 0]
def k0_off8 (k0_t1 : Fin k0_t1_loop.trips) (c0_i32_633 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1756 : BitVec 32 := Scalar.addi v1205 c0_i32_633
  let v1757 : Index := Scalar.indexCast v1756
  let c2_634 : Index := 2#32
  let c128_635 : Index := 128#32
  ![v1757.toNat, 2, 128]
def k0_off9 (k0_t1 : Fin k0_t1_loop.trips) (c0_i32_669 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1866 : BitVec 32 := Scalar.addi v1205 c0_i32_669
  let v1867 : Index := Scalar.indexCast v1866
  let c3_670 : Index := 3#32
  let c0_671 : Index := 0#32
  ![v1867.toNat, 3, 0]
def k0_off10 (k0_t1 : Fin k0_t1_loop.trips) (c0_i32_704 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v1976 : BitVec 32 := Scalar.addi v1205 c0_i32_704
  let v1977 : Index := Scalar.indexCast v1976
  let c3_705 : Index := 3#32
  let c128_706 : Index := 128#32
  ![v1977.toNat, 3, 128]
def k0_off11 (k0_t1 : Fin k0_t1_loop.trips) (c0_i32_740 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2086 : BitVec 32 := Scalar.addi v1205 c0_i32_740
  let v2087 : Index := Scalar.indexCast v2086
  let c4_741 : Index := 4#32
  let c0_742 : Index := 0#32
  ![v2087.toNat, 4, 0]
def k0_off12 (k0_t1 : Fin k0_t1_loop.trips) (c0_i32_775 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2196 : BitVec 32 := Scalar.addi v1205 c0_i32_775
  let v2197 : Index := Scalar.indexCast v2196
  let c4_776 : Index := 4#32
  let c128_777 : Index := 128#32
  ![v2197.toNat, 4, 128]
def k0_off13 (k0_t1 : Fin k0_t1_loop.trips) (c0_i32_811 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2306 : BitVec 32 := Scalar.addi v1205 c0_i32_811
  let v2307 : Index := Scalar.indexCast v2306
  let c5_812 : Index := 5#32
  let c0_813 : Index := 0#32
  ![v2307.toNat, 5, 0]
def k0_off14 (k0_t1 : Fin k0_t1_loop.trips) (c0_i32_846 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2416 : BitVec 32 := Scalar.addi v1205 c0_i32_846
  let v2417 : Index := Scalar.indexCast v2416
  let c5_847 : Index := 5#32
  let c128_848 : Index := 128#32
  ![v2417.toNat, 5, 128]
def k0_off15 (k0_t1 : Fin k0_t1_loop.trips) (c0_i32_882 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2526 : BitVec 32 := Scalar.addi v1205 c0_i32_882
  let v2527 : Index := Scalar.indexCast v2526
  let c6_883 : Index := 6#32
  let c0_884 : Index := 0#32
  ![v2527.toNat, 6, 0]
def k0_off16 (k0_t1 : Fin k0_t1_loop.trips) (c0_i32_917 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2636 : BitVec 32 := Scalar.addi v1205 c0_i32_917
  let v2637 : Index := Scalar.indexCast v2636
  let c6_918 : Index := 6#32
  let c128_919 : Index := 128#32
  ![v2637.toNat, 6, 128]
def k0_off17 (k0_t1 : Fin k0_t1_loop.trips) (c0_i32_953 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2746 : BitVec 32 := Scalar.addi v1205 c0_i32_953
  let v2747 : Index := Scalar.indexCast v2746
  let c7_954 : Index := 7#32
  let c0_955 : Index := 0#32
  ![v2747.toNat, 7, 0]
def k0_off18 (k0_t1 : Fin k0_t1_loop.trips) (c0_i32_988 : BitVec 32) : Fin 3 → Nat :=
  let c0_i32_302 : BitVec 32 := 0#32
  let c1_i32_303 : BitVec 32 := 1#32
  let arg9 : BitVec 32 := Scf.iv c0_i32_302 c1_i32_303 k0_t1
  let c2_i32_457 : BitVec 32 := 2#32
  let v1205 : BitVec 32 := Scalar.muli arg9 c2_i32_457
  let v2856 : BitVec 32 := Scalar.addi v1205 c0_i32_988
  let v2857 : Index := Scalar.indexCast v2856
  let c7_989 : Index := 7#32
  let c128_990 : Index := 128#32
  ![v2857.toNat, 7, 128]
def k0_off19 (k0_t1 : Fin k0_t1_loop.trips) : Fin 2 → Nat :=
  let c0_1592 : Index := 0#32
  let c0_i32_302 : BitVec 32 := 0#32
  let c1_i32_303 : BitVec 32 := 1#32
  let arg9 : BitVec 32 := Scf.iv c0_i32_302 c1_i32_303 k0_t1
  let c1024_i32 : BitVec 32 := 1024#32
  let v1203 : BitVec 32 := Scalar.muli arg9 c1024_i32
  let v1204 : BitVec 32 := v1203
  let v4726 : Index := Scalar.indexCast v1204
  ![0, v4726.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S32x1x8192 : Shape := ⟨3, ![32, 1, 8192]⟩
abbrev S8192x22528 : Shape := ⟨2, ![8192, 22528]⟩
abbrev S128x45056 : Shape := ⟨2, ![128, 45056]⟩
abbrev S_ : Shape := ⟨0, ![]⟩
abbrev S8192x22528x1 : Shape := ⟨3, ![8192, 22528, 1]⟩
abbrev S8192x22528x2 : Shape := ⟨3, ![8192, 22528, 2]⟩
abbrev S8192x45056 : Shape := ⟨2, ![8192, 45056]⟩
abbrev S128x64x45056 : Shape := ⟨3, ![128, 64, 45056]⟩
abbrev S128x1x45056 : Shape := ⟨3, ![128, 1, 45056]⟩
abbrev S32x8192 : Shape := ⟨2, ![32, 8192]⟩
abbrev S32x45056 : Shape := ⟨2, ![32, 45056]⟩
abbrev S32x1x45056 : Shape := ⟨3, ![32, 1, 45056]⟩

abbrev nBuf : Space → Nat
  | .hbm => 107
  | .vmem => 0
  | .smem => 0
  | _ => 0

abbrev bufTy : (tb : Table) → Fin (tcTables nBuf tb) → BufTy
  | .hbm, ⟨0, _⟩ => ⟨S32x1x8192, .bf16⟩
  | .hbm, ⟨1, _⟩ => ⟨S8192x22528, .i8⟩
  | .hbm, ⟨2, _⟩ => ⟨S128x45056, .f32⟩
  | .hbm, ⟨3, _⟩ => ⟨S8192x22528, .i32⟩
  | .hbm, ⟨4, _⟩ => ⟨S_, .i32⟩
  | .hbm, ⟨5, _⟩ => ⟨S8192x22528, .i32⟩
  | .hbm, ⟨6, _⟩ => ⟨S8192x22528, .i32⟩
  | .hbm, ⟨7, _⟩ => ⟨S_, .i32⟩
  | .hbm, ⟨8, _⟩ => ⟨S8192x22528, .i32⟩
  | .hbm, ⟨9, _⟩ => ⟨S8192x22528, .i32⟩
  | .hbm, ⟨10, _⟩ => ⟨S8192x22528x1, .i32⟩
  | .hbm, ⟨11, _⟩ => ⟨S8192x22528x1, .i32⟩
  | .hbm, ⟨12, _⟩ => ⟨S8192x22528x2, .i32⟩
  | .hbm, ⟨13, _⟩ => ⟨S8192x45056, .i32⟩
  | .hbm, ⟨14, _⟩ => ⟨S_, .i32⟩
  | .hbm, ⟨15, _⟩ => ⟨S8192x45056, .i32⟩
  | .hbm, ⟨16, _⟩ => ⟨S8192x45056, .i32⟩
  | .hbm, ⟨17, _⟩ => ⟨S_, .i32⟩
  | .hbm, ⟨18, _⟩ => ⟨S8192x45056, .i32⟩
  | .hbm, ⟨19, _⟩ => ⟨S8192x45056, .i32⟩
  | .hbm, ⟨20, _⟩ => ⟨S_, .i32⟩
  | .hbm, ⟨21, _⟩ => ⟨S8192x45056, .i32⟩
  | .hbm, ⟨22, _⟩ => ⟨S8192x45056, .i1⟩
  | .hbm, ⟨23, _⟩ => ⟨S_, .f32⟩
  | .hbm, ⟨24, _⟩ => ⟨S_, .f32⟩
  | .hbm, ⟨25, _⟩ => ⟨S8192x45056, .f32⟩
  | .hbm, ⟨26, _⟩ => ⟨S8192x45056, .f32⟩
  | .hbm, ⟨27, _⟩ => ⟨S8192x45056, .f32⟩
  | .hbm, ⟨28, _⟩ => ⟨S_, .f32⟩
  | .hbm, ⟨29, _⟩ => ⟨S_, .f32⟩
  | .hbm, ⟨30, _⟩ => ⟨S8192x45056, .f32⟩
  | .hbm, ⟨31, _⟩ => ⟨S8192x45056, .f32⟩
  | .hbm, ⟨32, _⟩ => ⟨S8192x45056, .f32⟩
  | .hbm, ⟨33, _⟩ => ⟨S_, .f32⟩
  | .hbm, ⟨34, _⟩ => ⟨S_, .f32⟩
  | .hbm, ⟨35, _⟩ => ⟨S8192x45056, .f32⟩
  | .hbm, ⟨36, _⟩ => ⟨S8192x45056, .f32⟩
  | .hbm, ⟨37, _⟩ => ⟨S8192x45056, .f32⟩
  | .hbm, ⟨38, _⟩ => ⟨S_, .f32⟩
  | .hbm, ⟨39, _⟩ => ⟨S_, .f32⟩
  | .hbm, ⟨40, _⟩ => ⟨S8192x45056, .f32⟩
  | .hbm, ⟨41, _⟩ => ⟨S8192x45056, .f32⟩
  | .hbm, ⟨42, _⟩ => ⟨S8192x45056, .f32⟩
  | .hbm, ⟨43, _⟩ => ⟨S_, .f32⟩
  | .hbm, ⟨44, _⟩ => ⟨S_, .f32⟩
  | .hbm, ⟨45, _⟩ => ⟨S8192x45056, .f32⟩
  | .hbm, ⟨46, _⟩ => ⟨S8192x45056, .f32⟩
  | .hbm, ⟨47, _⟩ => ⟨S8192x45056, .f32⟩
  | .hbm, ⟨48, _⟩ => ⟨S_, .f32⟩
  | .hbm, ⟨49, _⟩ => ⟨S_, .f32⟩
  | .hbm, ⟨50, _⟩ => ⟨S8192x45056, .f32⟩
  | .hbm, ⟨51, _⟩ => ⟨S8192x45056, .f32⟩
  | .hbm, ⟨52, _⟩ => ⟨S8192x45056, .f32⟩
  | .hbm, ⟨53, _⟩ => ⟨S_, .f32⟩
  | .hbm, ⟨54, _⟩ => ⟨S_, .f32⟩
  | .hbm, ⟨55, _⟩ => ⟨S8192x45056, .f32⟩
  | .hbm, ⟨56, _⟩ => ⟨S8192x45056, .f32⟩
  | .hbm, ⟨57, _⟩ => ⟨S8192x45056, .f32⟩
  | .hbm, ⟨58, _⟩ => ⟨S_, .f32⟩
  | .hbm, ⟨59, _⟩ => ⟨S_, .f32⟩
  | .hbm, ⟨60, _⟩ => ⟨S8192x45056, .f32⟩
  | .hbm, ⟨61, _⟩ => ⟨S8192x45056, .f32⟩
  | .hbm, ⟨62, _⟩ => ⟨S8192x45056, .f32⟩
  | .hbm, ⟨63, _⟩ => ⟨S_, .i32⟩
  | .hbm, ⟨64, _⟩ => ⟨S8192x45056, .i32⟩
  | .hbm, ⟨65, _⟩ => ⟨S8192x45056, .i32⟩
  | .hbm, ⟨66, _⟩ => ⟨S_, .i32⟩
  | .hbm, ⟨67, _⟩ => ⟨S8192x45056, .i32⟩
  | .hbm, ⟨68, _⟩ => ⟨S8192x45056, .i32⟩
  | .hbm, ⟨69, _⟩ => ⟨S_, .i32⟩
  | .hbm, ⟨70, _⟩ => ⟨S8192x45056, .i32⟩
  | .hbm, ⟨71, _⟩ => ⟨S8192x45056, .i1⟩
  | .hbm, ⟨72, _⟩ => ⟨S8192x45056, .f32⟩
  | .hbm, ⟨73, _⟩ => ⟨S8192x45056, .f32⟩
  | .hbm, ⟨74, _⟩ => ⟨S8192x45056, .f32⟩
  | .hbm, ⟨75, _⟩ => ⟨S8192x45056, .f32⟩
  | .hbm, ⟨76, _⟩ => ⟨S_, .i32⟩
  | .hbm, ⟨77, _⟩ => ⟨S8192x45056, .i32⟩
  | .hbm, ⟨78, _⟩ => ⟨S8192x45056, .i32⟩
  | .hbm, ⟨79, _⟩ => ⟨S_, .i32⟩
  | .hbm, ⟨80, _⟩ => ⟨S8192x45056, .i32⟩
  | .hbm, ⟨81, _⟩ => ⟨S8192x45056, .i32⟩
  | .hbm, ⟨82, _⟩ => ⟨S_, .i32⟩
  | .hbm, ⟨83, _⟩ => ⟨S8192x45056, .i32⟩
  | .hbm, ⟨84, _⟩ => ⟨S8192x45056, .i1⟩
  | .hbm, ⟨85, _⟩ => ⟨S8192x45056, .f32⟩
  | .hbm, ⟨86, _⟩ => ⟨S8192x45056, .f32⟩
  | .hbm, ⟨87, _⟩ => ⟨S_, .i32⟩
  | .hbm, ⟨88, _⟩ => ⟨S8192x45056, .i32⟩
  | .hbm, ⟨89, _⟩ => ⟨S8192x45056, .i32⟩
  | .hbm, ⟨90, _⟩ => ⟨S_, .i32⟩
  | .hbm, ⟨91, _⟩ => ⟨S8192x45056, .i32⟩
  | .hbm, ⟨92, _⟩ => ⟨S8192x45056, .i32⟩
  | .hbm, ⟨93, _⟩ => ⟨S_, .i32⟩
  | .hbm, ⟨94, _⟩ => ⟨S8192x45056, .i32⟩
  | .hbm, ⟨95, _⟩ => ⟨S8192x45056, .i1⟩
  | .hbm, ⟨96, _⟩ => ⟨S8192x45056, .f32⟩
  | .hbm, ⟨97, _⟩ => ⟨S128x64x45056, .f32⟩
  | .hbm, ⟨98, _⟩ => ⟨S128x1x45056, .f32⟩
  | .hbm, ⟨99, _⟩ => ⟨S128x64x45056, .f32⟩
  | .hbm, ⟨100, _⟩ => ⟨S128x64x45056, .f32⟩
  | .hbm, ⟨101, _⟩ => ⟨S8192x45056, .f32⟩
  | .hbm, ⟨102, _⟩ => ⟨S8192x45056, .bf16⟩
  | .hbm, ⟨103, _⟩ => ⟨S32x8192, .bf16⟩
  | .hbm, ⟨104, _⟩ => ⟨S32x45056, .f32⟩
  | .hbm, ⟨105, _⟩ => ⟨S32x45056, .bf16⟩
  | .hbm, ⟨106, _⟩ => ⟨S32x1x45056, .bf16⟩
  | _, _ => ⟨S32x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_cst_6 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_cst_7 : Ref sig .tc := ⟨.hbm, 33, rfl⟩
abbrev main_cst_8 : Ref sig .tc := ⟨.hbm, 34, rfl⟩
abbrev main_call2_v0 : Ref sig .tc := ⟨.hbm, 35, rfl⟩
abbrev main_call2_v1 : Ref sig .tc := ⟨.hbm, 36, rfl⟩
abbrev main_v17 : Ref sig .tc := ⟨.hbm, 37, rfl⟩
abbrev main_cst_9 : Ref sig .tc := ⟨.hbm, 38, rfl⟩
abbrev main_cst_10 : Ref sig .tc := ⟨.hbm, 39, rfl⟩
abbrev main_call3_v0 : Ref sig .tc := ⟨.hbm, 40, rfl⟩
abbrev main_call3_v1 : Ref sig .tc := ⟨.hbm, 41, rfl⟩
abbrev main_v18 : Ref sig .tc := ⟨.hbm, 42, rfl⟩
abbrev main_cst_11 : Ref sig .tc := ⟨.hbm, 43, rfl⟩
abbrev main_cst_12 : Ref sig .tc := ⟨.hbm, 44, rfl⟩
abbrev main_call4_v0 : Ref sig .tc := ⟨.hbm, 45, rfl⟩
abbrev main_call4_v1 : Ref sig .tc := ⟨.hbm, 46, rfl⟩
abbrev main_v19 : Ref sig .tc := ⟨.hbm, 47, rfl⟩
abbrev main_cst_13 : Ref sig .tc := ⟨.hbm, 48, rfl⟩
abbrev main_cst_14 : Ref sig .tc := ⟨.hbm, 49, rfl⟩
abbrev main_call5_v0 : Ref sig .tc := ⟨.hbm, 50, rfl⟩
abbrev main_call5_v1 : Ref sig .tc := ⟨.hbm, 51, rfl⟩
abbrev main_v20 : Ref sig .tc := ⟨.hbm, 52, rfl⟩
abbrev main_cst_15 : Ref sig .tc := ⟨.hbm, 53, rfl⟩
abbrev main_cst_16 : Ref sig .tc := ⟨.hbm, 54, rfl⟩
abbrev main_call6_v0 : Ref sig .tc := ⟨.hbm, 55, rfl⟩
abbrev main_call6_v1 : Ref sig .tc := ⟨.hbm, 56, rfl⟩
abbrev main_v21 : Ref sig .tc := ⟨.hbm, 57, rfl⟩
abbrev main_cst_17 : Ref sig .tc := ⟨.hbm, 58, rfl⟩
abbrev main_cst_18 : Ref sig .tc := ⟨.hbm, 59, rfl⟩
abbrev main_call7_v0 : Ref sig .tc := ⟨.hbm, 60, rfl⟩
abbrev main_call7_v1 : Ref sig .tc := ⟨.hbm, 61, rfl⟩
abbrev main_v22 : Ref sig .tc := ⟨.hbm, 62, rfl⟩
abbrev main_c_19 : Ref sig .tc := ⟨.hbm, 63, rfl⟩
abbrev main_v23 : Ref sig .tc := ⟨.hbm, 64, rfl⟩
abbrev main_v24 : Ref sig .tc := ⟨.hbm, 65, rfl⟩
abbrev main_c_20 : Ref sig .tc := ⟨.hbm, 66, rfl⟩
abbrev main_v25 : Ref sig .tc := ⟨.hbm, 67, rfl⟩
abbrev main_v26 : Ref sig .tc := ⟨.hbm, 68, rfl⟩
abbrev main_c_21 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_22 : Ref sig .tc := ⟨.hbm, 76, rfl⟩
abbrev main_v33 : Ref sig .tc := ⟨.hbm, 77, rfl⟩
abbrev main_v34 : Ref sig .tc := ⟨.hbm, 78, rfl⟩
abbrev main_c_23 : Ref sig .tc := ⟨.hbm, 79, rfl⟩
abbrev main_v35 : Ref sig .tc := ⟨.hbm, 80, rfl⟩
abbrev main_v36 : Ref sig .tc := ⟨.hbm, 81, rfl⟩
abbrev main_c_24 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_25 : Ref sig .tc := ⟨.hbm, 87, rfl⟩
abbrev main_v41 : Ref sig .tc := ⟨.hbm, 88, rfl⟩
abbrev main_v42 : Ref sig .tc := ⟨.hbm, 89, rfl⟩
abbrev main_c_26 : Ref sig .tc := ⟨.hbm, 90, rfl⟩
abbrev main_v43 : Ref sig .tc := ⟨.hbm, 91, rfl⟩
abbrev main_v44 : Ref sig .tc := ⟨.hbm, 92, rfl⟩
abbrev main_c_27 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩

abbrev nD : Nat := 1
abbrev τ : Topo := Topo.v7x

variable {F : FTy → Type} [FloatOps F]
-- ==== Proof.Claims.lean ====
/- The claims that need no value: each program's run ends with its arguments as they were and every
   semaphore at zero, and the one rule the idealized program uses holds at the shapes it is used at. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Bf16Pair

@[expose] public section

noncomputable section

namespace Cert.Claims

open Idealize.ShloMosaic Idealize.SL.Sem

/-- The kernel as printed leaves its arguments as they were and every semaphore at zero. -/
theorem frame_kernel : Cert.quiescent_Kernel := fun m ρ _ => Cert.Kernel.Gen.frame m ρ

/-- The idealized kernel leaves its arguments as they were and every semaphore at zero. -/
theorem frame_kernelIdeal : Cert.quiescent_KernelIdeal := fun m ρ _ => Cert.KernelIdeal.Gen.frame m ρ

/-- The idealized reference leaves its arguments as they were and every semaphore at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Packing two vectors of bf16 numbers into words and reading the words as rows of bf16 numbers gives
    the two vectors' rows in turn. -/
theorem preserves : Cert.preserves_Kernel_KernelIdeal :=
  ⟨IdealRules.bf16_pair.packStatement _, IdealRules.bf16_pair.statement _ _⟩

end Cert.Claims

end
-- ==== Proof.Piece.lean ====
/- The decoded weights of one trip of the kernel's loop, written once for every block of the trip.

   A trip decodes 1024 rows of weights. They are laid down as 64 pieces of 16 rows: piece
   `4 * b + 2 * r + p` comes from block `b` of 64 rows (one scale row), half `r` of the block (32 rows of
   bytes), and parity `p`: the even or the odd rows of those 32. `trip_eq` says that what a trip yields is
   the two products of the activations' 1024 columns with these pieces, added to what was carried in. -/
module

public import proofs.«01_k».proof.Proof.Gen.KernelIdeal.Loops

@[expose] public section

noncomputable section

namespace Cert.KernelIdeal.Rows

open Cert.KernelIdeal Cert.KernelIdeal.Gen Idealize.ShloMosaic Idealize.ShloMosaic.TcCoe Idealize.ShloMosaic.Tactic
open Idealize.SL.Sem

variable {F : FTy → Type} [FloatOps F]

/-- The scaled table of one scale row: rows `2 i` and `2 i + 1` are the even and odd code values, scaled. -/
def table (ev od : Vec F S8x128 .f32) (s : Vec F S1x1x128 .f32) : FVec F S16x128 .bf16 :=
  interleaveRows S16x128
    (truncf .bf16 (mulf (shapeCast S8x128 ev shapeCasts_S8x128_S8x128 : FVec F S8x128 .f32)
      (broadcastTo S8x128 (shapeCast S1x128 s shapeCasts_S1x1x128_S1x128) broadcasts_S1x128_S8x128)))
    (truncf .bf16 (mulf (shapeCast S8x128 od shapeCasts_S8x128_S8x128 : FVec F S8x128 .f32)
      (broadcastTo S8x128 (shapeCast S1x128 s shapeCasts_S1x1x128_S1x128) broadcasts_S1x128_S8x128)))
    bitcasts_S16x128_w16_S8x128_w32

/-- Four bytes of a column as one word. -/
def word (w : Vec F S32x128 .i8) : IVec S8x128 32 := bitcast S8x128 32 w bitcasts_S32x128_w8_S8x128_w32

/-- The low codes of the four bytes, each in bits 1 to 4 of its byte. -/
def lowCodes (w : Vec F S32x128 .i8) : IVec S8x128 32 :=
  andi (shli (word w) (broadcast S8x128 1#32)) (broadcast S8x128 505290270#32)

/-- The high codes of the four bytes, each in bits 1 to 4 of its byte. -/
def highCodes (w : Vec F S32x128 .i8) : IVec S8x128 32 :=
  andi (shrsi (word w) (broadcast S8x128 3#32)) (broadcast S8x128 505290270#32)

/-- The table row of each code: the codes' words read as halves, `sh` bits down, four bits of them. -/
def look (t : FVec F S16x128 .bf16) (v : IVec S8x128 32) (sh : BitVec 32) : FVec F S16x128 .bf16 :=
  dynamicGather 0 t (shapeCast S16x128 (shapeCast S16x128x1
    (andi (shrsi (extsi 32 (bitcast S16x128 16 v bitcasts_S8x128_w32_S16x128_w16) natLt_16_32) (broadcast S16x128 sh))
      (broadcast S16x128 15#32)) shapeCasts_S16x128_S16x128x1) shapeCasts_S16x128x1_S16x128)

/-- Where the scale row of block `b` of trip `k` starts, as the kernel computes it. -/
def scaleAt (k : Fin k0_t1_loop.trips) (n : Fin 2) (b : Fin 16) : Fin 3 → Nat :=
  ![(Scalar.indexCast (Scalar.addi (Scalar.muli (Scf.iv 0#32 1#32 k) 2#32) (BitVec.ofNat 32 (b.val / 8)))).toNat,
    b.val % 8, 128 * n.val]

/-- Where the bytes of half `r` of block `b` of trip `k` start, as the kernel computes it. -/
def bytesAt (k : Fin k0_t1_loop.trips) (n : Fin 2) (b : Fin 16) (r : Fin 2) : Fin 2 → Nat :=
  ![(Scalar.indexCast (Scalar.addi (Scalar.addi (Scalar.muli (Scf.iv 0#32 1#32 k) 1024#32) (BitVec.ofNat 32 (64 * b.val)))
      (BitVec.ofNat 32 (32 * r.val)))).toNat, 128 * n.val]

theorem scaleAt_eq : ∀ (k : Fin k0_t1_loop.trips) (n : Fin 2) (b : Fin 16),
    scaleAt k n b = ![2 * k.val + b.val / 8, b.val % 8, 128 * n.val] := by decide +kernel

theorem bytesAt_eq : ∀ (k : Fin k0_t1_loop.trips) (n : Fin 2) (b : Fin 16) (r : Fin 2),
    bytesAt k n b r = ![1024 * k.val + 64 * b.val + 32 * r.val, 128 * n.val] := by decide +kernel

theorem scaleAt_inb (k : Fin k0_t1_loop.trips) (n : Fin 2) (b : Fin 16) :
    ∀ a, scaleAt k n b a + S1x1x128.size a ≤ S16x8x256.size a := by
  revert k n b; decide +kernel

theorem bytesAt_inb (k : Fin k0_t1_loop.trips) (n : Fin 2) (b : Fin 16) (r : Fin 2) :
    ∀ a, bytesAt k n b r a + S32x128.size a ≤ S8192x256.size a := by
  revert k n b r; decide +kernel

/-- The scale row of block `b` of trip `k`, read from a scratch array of scale rows. -/
def scaleRow (a : Memref sig .tc .vmem S16x8x256 .f32) (X : BufTy.Contents (Elt F) a.view.ty)
    (k : Fin k0_t1_loop.trips) (n : Fin 2) (b : Fin 16) : Vec F S1x1x128 .f32 :=
  a.view.readAt (Elt F) (Rect.unit (s := S16x8x256) (scaleAt k n b) S1x1x128.size (scaleAt_inb k n b)).toLoadRect X

/-- The bytes of half `r` of block `b` of trip `k`. -/
def bytes (a : Memref sig .tc .vmem S8192x256 .i8) (X : BufTy.Contents (Elt F) a.view.ty)
    (k : Fin k0_t1_loop.trips) (n : Fin 2) (b : Fin 16) (r : Fin 2) : Vec F S32x128 .i8 :=
  a.view.readAt (Elt F) (Rect.unit (s := S8192x256) (bytesAt k n b r) S32x128.size (bytesAt_inb k n b r)).toLoadRect X

/-- Block, half and parity of a piece. -/
abbrev blk (q : Fin 64) : Fin 16 := ⟨q.val / 4, by omega⟩
abbrev half (q : Fin 64) : Fin 2 := ⟨q.val / 2 % 2, by omega⟩
abbrev shift (q : Fin 64) : BitVec 32 := BitVec.ofNat 32 (1 + 8 * (q.val % 2))

/-- Sixty-four pieces of 16 rows fill 1024 rows. -/
theorem concatenates_pieces (f : Fin 64 → FVec F S16x128 .bf16) :
    Shape.Concatenates ((List.ofFn fun q : Fin 64 => (⟨S16x128, f q⟩ : (s : Shape) × (s.Idx → F .bf16))).map (·.1)) S1024x128 0 := by
  rw [List.map_ofFn]
  show Shape.Concatenates (List.ofFn fun _ : Fin 64 => S16x128) S1024x128 0
  decide +kernel

/-- Sixty-four pieces one below the other. -/
def stack (f : Fin 64 → FVec F S16x128 .bf16) : FVec F S1024x128 .bf16 :=
  concatenate S1024x128 0 (List.ofFn fun q : Fin 64 => (⟨S16x128, f q⟩ : (s : Shape) × (s.Idx → F .bf16))) (concatenates_pieces f)

/-- The decoded weights of column half `n` of a trip, from the low codes. -/
def lowRows (ev od : Vec F S8x128 .f32) (a : Memref sig .tc .vmem S8192x256 .i8) (X : BufTy.Contents (Elt F) a.view.ty)
    (s : Memref sig .tc .vmem S16x8x256 .f32) (Y : BufTy.Contents (Elt F) s.view.ty)
    (k : Fin k0_t1_loop.trips) (n : Fin 2) : FVec F S1024x128 .bf16 :=
  stack fun q => look (table ev od (scaleRow s Y k n (blk q))) (lowCodes (bytes a X k n (blk q) (half q))) (shift q)

/-- The decoded weights of column half `n` of a trip, from the high codes. -/
def highRows (ev od : Vec F S8x128 .f32) (a : Memref sig .tc .vmem S8192x256 .i8) (X : BufTy.Contents (Elt F) a.view.ty)
    (s : Memref sig .tc .vmem S16x8x256 .f32) (Y : BufTy.Contents (Elt F) s.view.ty)
    (k : Fin k0_t1_loop.trips) (n : Fin 2) : FVec F S1024x128 .bf16 :=
  stack fun q => look (table ev od (scaleRow s Y k n (blk q))) (highCodes (bytes a X k n (blk q) (half q))) (shift q)

/-- The activations' columns of a trip. -/
def acts (a : Memref sig .tc .vmem S32x8192 .bf16) (X : BufTy.Contents (Elt F) a.view.ty) (k : Fin k0_t1_loop.trips) :
    Vec F S32x1024 .bf16 :=
  a.view.readAt (Elt F) (Rect.unit (s := S32x8192) (k0_off19 k) S32x1024.size (k0_off19_inb k)).toLoadRect X

set_option maxRecDepth 65536 in
set_option maxHeartbeats 4000000 in
/-- What a trip yields. -/
theorem trip_eq (𝒱 : Variants) (c : Dev nD) (bd : Option 𝒱.V) (i : grid0.Coords) (arg1 : Memref sig .tc .vmem S32x8192 .bf16) (harg1 : arg1.IsWhole) (arg2 : Memref sig .tc .vmem S16x128 .f32) (harg2 : arg2.IsWhole) (arg3 : Memref sig .tc .vmem S8192x256 .i8) (harg3 : arg3.IsWhole) (arg4 : Memref sig .tc .vmem S128x512 .f32) (harg4 : arg4.IsWhole) (arg5 : Memref sig .tc .vmem S32x512 .bf16) (harg5 : arg5.IsWhole) (arg6 : Memref sig .tc .vmem S32x8192 .bf16) (harg6 : arg6.IsWhole) (arg7 : Memref sig .tc .vmem S16x8x256 .f32) (harg7 : arg7.IsWhole) (arg8 : Memref sig .tc .vmem S16x8x256 .f32) (harg8 : arg8.IsWhole) (v0 : IVec S8x128 32) (v5 : IVec S8x128 1) (v12 : IVec S8x128 32) (v21 : IVec S8x128 32) (v39 : IVec S8x128 32) (v648 : Vec F S8x128 .f32) (v650 : Vec F S8x128 .f32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (k : Fin k0_t1_loop.trips) (acc : FVec F S32x256 .f32 × FVec F S32x256 .f32) :
    tripR_k0_t1 (F := F) 𝒱 c bd i arg1 harg1 arg2 harg2 arg3 harg3 arg4 harg4 arg5 harg5 arg6 harg6 arg7 harg7 arg8 harg8 v0 v5 v12 v21 v39 v648 v650 X_arg3 X_arg6 X_arg7 X_arg8 k acc
      = (k0_pay917 acc.1 (acts arg6 X_arg6 k) (lowRows v648 v650 arg3 X_arg3 arg7 X_arg7 k 0) (lowRows v648 v650 arg3 X_arg3 arg7 X_arg7 k 1),
         k0_pay918 acc.2 (acts arg6 X_arg6 k) (highRows v648 v650 arg3 X_arg3 arg8 X_arg8 k 0) (highRows v648 v650 arg3 X_arg3 arg8 X_arg8 k 1)) := by
  sl_kernel_rfl

end Cert.KernelIdeal.Rows

end
-- ==== Proof.Point.lean ====
/- What the kernel's stores leave at one grid point, written once for every store.

   A point stores 32 scale tiles into each of its two scale scratch arrays, runs the loop over the eight
   trips, and stores its output in four pieces of 128 columns. The first point also stores the activations,
   permuted within each group of 32 columns, in 128 pieces. `pieces_first` and `pieces_later` say that what
   the two kinds of point store is these pieces. -/
module

public import proofs.«01_k».proof.Proof.Piece
public import proofs.«01_k».proof.Proof.Gen.KernelIdeal.Frame

@[expose] public section

noncomputable section

namespace Cert.KernelIdeal.Rows

open Cert.KernelIdeal Cert.KernelIdeal.Gen Idealize.ShloMosaic Idealize.ShloMosaic.TcCoe Idealize.ShloMosaic.Tactic
open Idealize.SL.Sem

variable {F : FTy → Type} [FloatOps F]

/-- The lane numbers. -/
def lanes : IVec S8x128 32 := iota .tc S8x128 32 [1] iota_S8x128_d1_w32

/-- Half of each lane number, as the kernel computes it. -/
def halfLanes : IVec S8x128 32 :=
  select (andi (cmpi .ne (k0_pay920 lanes) (broadcast S8x128 1#32))
      (cmpi .ne (remsi lanes (broadcast S8x128 2#32)) (broadcast S8x128 0#32)))
    (subi (k0_pay919 lanes) (broadcast S8x128 1#32)) (k0_pay919 lanes)

/-- The lane numbers modulo two, as the kernel computes them. -/
def parity : IVec S8x128 32 := k0_pay928 lanes

/-- The source lane of each output lane of half `h` of a 256-column pair. -/
def source (h : Fin 2) : IVec S8x128 32 :=
  addi (broadcast S8x128 (BitVec.ofNat 32 (64 * h.val))) halfLanes

theorem slices_rows (g : Fin 4) (n : Fin 2) : S32x256.Slices ![8 * g.val, 128 * n.val] S8x128 := by
  revert g n; decide +kernel

/-- Eight rows of one output piece: the even lanes from the low sums, the odd lanes from the high sums. -/
def spreadRows (yl yh : FVec F S32x256 .f32) (n h : Fin 2) (g : Fin 4) : FVec F S8x128 .f32 :=
  select (cmpi .eq parity (broadcast S8x128 0#32))
    (dynamicGather 1 (extractStridedSlice S8x128 ![8 * g.val, 128 * n.val] yl (slices_rows g n))
      (shapeCast S8x128 (shapeCast S8x128x1 (source h) shapeCasts_S8x128_S8x128x1) shapeCasts_S8x128x1_S8x128))
    (dynamicGather 1 (extractStridedSlice S8x128 ![8 * g.val, 128 * n.val] yh (slices_rows g n))
      (shapeCast S8x128 (shapeCast S8x128x1 (source h) shapeCasts_S8x128_S8x128x1) shapeCasts_S8x128x1_S8x128))

/-- One output piece. -/
def spread (yl yh : FVec F S32x256 .f32) (n h : Fin 2) : FVec F S32x128 .bf16 :=
  truncf .bf16 (concatenate S32x128 0 [⟨S8x128, spreadRows yl yh n h 0⟩, ⟨S8x128, spreadRows yl yh n h 1⟩,
    ⟨S8x128, spreadRows yl yh n h 2⟩, ⟨S8x128, spreadRows yl yh n h 3⟩]
    concatenates_S8x128_S8x128_S8x128_S8x128_S32x128_d0 : FVec F S32x128 .f32) bitsLt_bf16_f32

theorem outAt_inb (n h : Fin 2) : ∀ a, (![0, 256 * n.val + 128 * h.val] : Fin 2 → Nat) a + S32x128.size a ≤ S32x512.size a := by
  revert n h; decide +kernel

/-- The output's pieces, last first. -/
def outPieces (y : FVec F S32x256 .f32 × FVec F S32x256 .f32) : List (View.Piece (Elt F) S32x512 .bf16) :=
  List.ofFn fun j : Fin 4 =>
    ⟨Rect.unit (s := S32x512) ![0, 256 * (Fin.divNat (n := 2) (m := 2) j.rev).val + 128 * (Fin.modNat (n := 2) (m := 2) j.rev).val] S32x128.size
      (outAt_inb _ _), spread y.1 y.2 (Fin.divNat (n := 2) (m := 2) j.rev) (Fin.modNat (n := 2) (m := 2) j.rev)⟩

theorem scaleTile_inb (n : Fin 2) (g : Fin 16) :
    ∀ a, (![g.val, 0, 128 * n.val] : Fin 3 → Nat) a + S1x8x128.size a ≤ S16x8x256.size a := by
  revert n g; decide +kernel

theorem absmaxTile_inb (n h : Fin 2) (g : Fin 16) :
    ∀ a, (![8 * g.val, 256 * n.val + 128 * h.val] : Fin 2 → Nat) a + S8x128.size a ≤ S128x512.size a := by
  revert n h g; decide +kernel

/-- Eight block rows of 128 columns of the point's scales. -/
def absmaxTile (a : Memref sig .tc .vmem S128x512 .f32) (X : BufTy.Contents (Elt F) a.view.ty) (n h : Fin 2) (g : Fin 16) :
    Vec F S8x128 .f32 :=
  a.view.readAt (Elt F) (Rect.unit (s := S128x512) ![8 * g.val, 256 * n.val + 128 * h.val] S8x128.size (absmaxTile_inb n h g)).toLoadRect X

/-- Column half and block group of the `j`-th piece from the end. -/
abbrev tileN (j : Fin 32) : Fin 2 := Fin.divNat (n := 16) (m := 2) j.rev
abbrev tileG (j : Fin 32) : Fin 16 := Fin.modNat (n := 16) (m := 2) j.rev

/-- The scales of the low codes, last piece first. -/
def lowPieces (a : Memref sig .tc .vmem S128x512 .f32) (X : BufTy.Contents (Elt F) a.view.ty) :
    List (View.Piece (Elt F) S16x8x256 .f32) :=
  List.ofFn fun j : Fin 32 =>
    ⟨Rect.unit (s := S16x8x256) ![(tileG j).val, 0, 128 * (tileN j).val] S1x8x128.size (scaleTile_inb _ _),
      k0_pay777 k0_pay771 k0_pay772 k0_pay773 (absmaxTile a X (tileN j) 0 (tileG j)) (absmaxTile a X (tileN j) 1 (tileG j))⟩

/-- The scales of the high codes, last piece first. -/
def highPieces (a : Memref sig .tc .vmem S128x512 .f32) (X : BufTy.Contents (Elt F) a.view.ty) :
    List (View.Piece (Elt F) S16x8x256 .f32) :=
  List.ofFn fun j : Fin 32 =>
    ⟨Rect.unit (s := S16x8x256) ![(tileG j).val, 0, 128 * (tileN j).val] S1x8x128.size (scaleTile_inb _ _),
      k0_pay778 k0_pay771 k0_pay772 k0_pay773 k0_pay774 (absmaxTile a X (tileN j) 0 (tileG j)) (absmaxTile a X (tileN j) 1 (tileG j))⟩

theorem actTile_inb (g : Fin 2) (l : Fin 64) :
    ∀ a, (![16 * g.val, 128 * l.val] : Fin 2 → Nat) a + S16x128.size a ≤ S32x8192.size a := by
  revert g l; decide +kernel

/-- Sixteen rows of 128 columns of the activations. -/
def actTile (a : Memref sig .tc .vmem S32x8192 .bf16) (X : BufTy.Contents (Elt F) a.view.ty) (g : Fin 2) (l : Fin 64) :
    Vec F S16x128 .bf16 :=
  a.view.readAt (Elt F) (Rect.unit (s := S32x8192) ![16 * g.val, 128 * l.val] S16x128.size (actTile_inb g l)).toLoadRect X

/-- Column tile and row half of the `j`-th piece from the end. -/
abbrev tileL (j : Fin 128) : Fin 64 := Fin.divNat (n := 2) (m := 64) j.rev
abbrev tileM (j : Fin 128) : Fin 2 := Fin.modNat (n := 2) (m := 64) j.rev

/-- The permuted activations, last piece first. -/
def actPieces (a : Memref sig .tc .vmem S32x8192 .bf16) (X : BufTy.Contents (Elt F) a.view.ty) :
    List (View.Piece (Elt F) S32x8192 .bf16) :=
  List.ofFn fun j : Fin 128 =>
    ⟨Rect.unit (s := S32x8192) ![16 * (tileM j).val, 128 * (tileL j).val] S16x128.size (actTile_inb _ _),
      k0_pay2 lanes (actTile a X (tileM j) (tileL j))⟩

theorem tableRows_inb (h : Fin 2) : ∀ a, (![8 * h.val, 0] : Fin 2 → Nat) a + S8x128.size a ≤ S16x128.size a := by
  revert h; decide +kernel

/-- Eight rows of the table of code values. -/
def tableRows (a : Memref sig .tc .vmem S16x128 .f32) (X : BufTy.Contents (Elt F) a.view.ty) (h : Fin 2) : Vec F S8x128 .f32 :=
  a.view.readAt (Elt F) (Rect.unit (s := S16x128) ![8 * h.val, 0] S8x128.size (tableRows_inb h)).toLoadRect X

section Point

variable (c : Dev nD) (i : grid0.Coords) (arg1 : Memref sig .tc .vmem S32x8192 .bf16) (harg1 : arg1.IsWhole) (arg2 : Memref sig .tc .vmem S16x128 .f32) (harg2 : arg2.IsWhole) (arg3 : Memref sig .tc .vmem S8192x256 .i8) (harg3 : arg3.IsWhole) (arg4 : Memref sig .tc .vmem S128x512 .f32) (harg4 : arg4.IsWhole) (arg5 : Memref sig .tc .vmem S32x512 .bf16) (harg5 : arg5.IsWhole) (arg6 : Memref sig .tc .vmem S32x8192 .bf16) (harg6 : arg6.IsWhole) (arg7 : Memref sig .tc .vmem S16x8x256 .f32) (harg7 : arg7.IsWhole) (arg8 : Memref sig .tc .vmem S16x8x256 .f32) (harg8 : arg8.IsWhole)

/-- The loop's two sums after `k` trips, over activations `X` in the scratch. -/
def sums (X : BufTy.Contents (Elt F) arg6.view.ty) (x1 : Vec F S16x128 .f32) (x2 : Vec F S8192x256 .i8) (x3 : Vec F S128x512 .f32)
    (k : ℕ) : FVec F S32x256 .f32 × FVec F S32x256 .f32 :=
  st_k0_t1 (F := F) Variants.none c none i arg1 harg1 arg2 harg2 arg3 harg3 arg4 harg4 arg5 harg5 arg6 harg6 arg7 harg7 arg8 harg8 lanes k0_pay771 k0_pay772 k0_pay773 k0_pay774
    (tableRows arg2 (harg2.unread x1) 0) (tableRows arg2 (harg2.unread x1) 1) (harg3.unread x2) X
    (arg7.view.writes (Elt F) arg7.view.junk (lowPieces arg4 (harg4.unread x3)))
    (arg8.view.writes (Elt F) arg8.view.junk (highPieces arg4 (harg4.unread x3)))
    (k0_pay915, k0_pay915) k

set_option maxRecDepth 65536 in
set_option maxHeartbeats 4000000 in
theorem pieces_later (hc0 : ¬cond0_0 i)
    (x0 : Vec F S32x8192 .bf16) (x1 : Vec F S16x128 .f32) (x2 : Vec F S8192x256 .i8) (x3 : Vec F S128x512 .f32) (xs0 : Vec F S32x8192 .bf16) :
    (kernelRun0_B c i arg1 harg1 arg2 harg2 arg3 harg3 arg4 harg4 arg5 harg5 arg6 harg6 arg7 harg7 arg8 harg8 hc0 x0 x1 x2 x3 xs0).1
      = outPieces (sums c i arg1 harg1 arg2 harg2 arg3 harg3 arg4 harg4 arg5 harg5 arg6 harg6 arg7 harg7 arg8 harg8 (harg6.unread xs0) x1 x2 x3 k0_t1_loop.trips) := by
  sl_kernel_rfl

set_option maxRecDepth 65536 in
set_option maxHeartbeats 4000000 in
theorem pieces_first (hc0 : cond0_0 i)
    (x0 : Vec F S32x8192 .bf16) (x1 : Vec F S16x128 .f32) (x2 : Vec F S8192x256 .i8) (x3 : Vec F S128x512 .f32) :
    (kernelRun0_A c i arg1 harg1 arg2 harg2 arg3 harg3 arg4 harg4 arg5 harg5 arg6 harg6 arg7 harg7 arg8 harg8 hc0 x0 x1 x2 x3).1
      = outPieces (sums c i arg1 harg1 arg2 harg2 arg3 harg3 arg4 harg4 arg5 harg5 arg6 harg6 arg7 harg7 arg8 harg8 (arg6.view.writes (Elt F) arg6.view.junk (actPieces arg1 (harg1.unread x0))) x1 x2 x3 k0_t1_loop.trips) := by
  sl_kernel_rfl

set_option maxRecDepth 65536 in
set_option maxHeartbeats 4000000 in
theorem carried_first (hc0 : cond0_0 i)
    (x0 : Vec F S32x8192 .bf16) (x1 : Vec F S16x128 .f32) (x2 : Vec F S8192x256 .i8) (x3 : Vec F S128x512 .f32) :
    (kernelRun0_A c i arg1 harg1 arg2 harg2 arg3 harg3 arg4 harg4 arg5 harg5 arg6 harg6 arg7 harg7 arg8 harg8 hc0 x0 x1 x2 x3).2.1 = actPieces arg1 (harg1.unread x0) := by
  sl_kernel_rfl

end Point

end Cert.KernelIdeal.Rows

end
-- ==== Proof.Lanes.lean ====
/- The lane numbers the kernel computes, as numbers: each fact is checked once for every lane. -/
module

public import proofs.«01_k».proof.Proof.Point
public import Idealize.ShloMosaic.Lib.Pointwise
public import Idealize.ShloMosaic.Lib.Pipeline.Value

@[expose] public section

noncomputable section

namespace Cert.KernelIdeal.Rows

open Cert.KernelIdeal Cert.KernelIdeal.Gen Idealize.ShloMosaic Idealize.ShloMosaic.TcCoe Idealize.ShloMosaic.Tactic
open Idealize.SL.Sem

/-- A gather along the lanes, by lane numbers that went through a unit axis and back. -/
theorem gather_lane {α : Type} (x : S8x128.Idx → α) (v : IVec S8x128 32) (j : S8x128.Idx) (l : Fin 128) (h : (v j).toNat = l.val) :
    dynamicGather 1 x (shapeCast S8x128 (shapeCast S8x128x1 v shapeCasts_S8x128_S8x128x1) shapeCasts_S8x128x1_S8x128) j
      = x (ix2 (j 0) l) := by
  rw [shapeCast_shapeCast, dynamicGather_apply]
  congr 1
  funext a
  match a with
  | 0 => rfl
  | 1 =>
    apply Fin.ext
    show (v j).toNat % 128 = l.val
    rw [h]; exact Nat.mod_eq_of_lt l.isLt

theorem source_toNat (h : Fin 2) (j : S8x128.Idx) : (source h j).toNat = 64 * h.val + (j 1).val / 2 := by
  have key : ∀ (h : Fin 2) (l : Fin 128), (source h (ix2 0 l)).toNat = 64 * h.val + l.val / 2 := by decide +kernel
  exact (show (source h j).toNat = (source h (ix2 0 (j 1))).toNat from rfl).trans (key h (j 1))

theorem parity_eq (j : S8x128.Idx) : Scalar.cmpi .eq (parity j) 0#32 = if (j 1).val % 2 = 0 then 1#1 else 0#1 := by
  have key : ∀ l : Fin 128, Scalar.cmpi .eq (parity (ix2 0 l)) 0#32 = if l.val % 2 = 0 then 1#1 else 0#1 := by decide +kernel
  exact (show Scalar.cmpi .eq (parity j) 0#32 = Scalar.cmpi .eq (parity (ix2 0 (j 1))) 0#32 from rfl).trans (key (j 1))

theorem lower_eq (j : S8x128.Idx) : k0_pay771 j = if (j 1).val < 64 then 1#1 else 0#1 := by
  have key : ∀ l : Fin 128, k0_pay771 (ix2 0 l) = if l.val < 64 then 1#1 else 0#1 := by decide +kernel
  exact (show k0_pay771 j = k0_pay771 (ix2 0 (j 1)) from rfl).trans (key (j 1))

theorem even_toNat (j : S8x128.Idx) : (k0_pay772 j).toNat = if (j 1).val < 64 then 2 * (j 1).val else 2 * (j 1).val - 127 := by
  have key : ∀ l : Fin 128, (k0_pay772 (ix2 0 l)).toNat = if l.val < 64 then 2 * l.val else 2 * l.val - 127 := by decide +kernel
  exact (show (k0_pay772 j).toNat = (k0_pay772 (ix2 0 (j 1))).toNat from rfl).trans (key (j 1))

theorem odd_toNat (j : S8x128.Idx) : (k0_pay773 j).toNat = if (j 1).val < 64 then 2 * (j 1).val + 1 else 2 * (j 1).val - 128 := by
  have key : ∀ l : Fin 128, (k0_pay773 (ix2 0 l)).toNat = if l.val < 64 then 2 * l.val + 1 else 2 * l.val - 128 := by decide +kernel
  exact (show (k0_pay773 j).toNat = (k0_pay773 (ix2 0 (j 1))).toNat from rfl).trans (key (j 1))

theorem back_toNat (j : S8x128.Idx) : (k0_pay774 j).toNat = ((j 1).val + 64) % 128 := by
  have key : ∀ l : Fin 128, (k0_pay774 (ix2 0 l)).toNat = (l.val + 64) % 128 := by decide +kernel
  exact (show (k0_pay774 j).toNat = (k0_pay774 (ix2 0 (j 1))).toNat from rfl).trans (key (j 1))

/-- Where column `p` of the permuted activations comes from, within its group of 32 columns: first the even
    columns, then the odd ones. -/
def origin (p : ℕ) : ℕ := 32 * (p / 32) + (if p % 32 < 16 then 2 * (p % 32) else 2 * (p % 32) - 31)

theorem origin_lt {p n : ℕ} (h : p < 32 * n) : origin p < 32 * n := by
  unfold origin; split <;> omega

theorem perm_toNat (j : S8x128.Idx) : (k0_pay1 lanes j).toNat = origin (j 1).val := by
  have key : ∀ l : Fin 128, (k0_pay1 lanes (ix2 0 l)).toNat = origin l.val := by decide +kernel
  exact (show (k0_pay1 lanes j).toNat = (k0_pay1 lanes (ix2 0 (j 1))).toNat from rfl).trans (key (j 1))

end Cert.KernelIdeal.Rows

end
-- ==== Proof.Spread.lean ====
/- One output piece, lane by lane: the even lanes take the low sums, the odd lanes the high sums. -/
module

public import proofs.«01_k».proof.Proof.Lanes

@[expose] public section

noncomputable section

namespace Cert.KernelIdeal.Rows

open Cert.KernelIdeal Cert.KernelIdeal.Gen Idealize.ShloMosaic Idealize.ShloMosaic.TcCoe Idealize.ShloMosaic.Tactic
open Idealize.SL.Sem

/-- Output column `q` of a point's 512, from the two sums. -/
def interleaved (yl yh : S32x256.Idx → Ideal .f32) (a : Fin 32) (q : Fin 512) : Ideal .f32 :=
  if q.val % 2 = 0 then yl (ix2 a ⟨q.val / 2, by omega⟩) else yh (ix2 a ⟨q.val / 2, by omega⟩)

theorem spreadRows_apply (yl yh : FVec Ideal S32x256 .f32) (n h : Fin 2) (g : Fin 4) (j : S8x128.Idx) :
    spreadRows yl yh n h g j
      = interleaved yl yh ⟨8 * g.val + (j 0).val, by have : (j 0).val < 8 := (j 0).isLt; omega⟩
          ⟨256 * n.val + 128 * h.val + (j 1).val, by have : (j 1).val < 128 := (j 1).isLt; omega⟩ := by
  have h0 : (j 0).val < 8 := (j 0).isLt
  have h1 : (j 1).val < 128 := (j 1).isLt
  have hg := source_toNat h j
  have rd : ∀ y : FVec Ideal S32x256 .f32, dynamicGather 1 (extractStridedSlice S8x128 ![8 * g.val, 128 * n.val] y (slices_rows g n))
      (shapeCast S8x128 (shapeCast S8x128x1 (source h) shapeCasts_S8x128_S8x128x1) shapeCasts_S8x128x1_S8x128) j
      = y (ix2 ⟨8 * g.val + (j 0).val, by omega⟩ ⟨(256 * n.val + 128 * h.val + (j 1).val) / 2, by omega⟩) := by
    intro y
    rw [gather_lane _ _ j ⟨64 * h.val + (j 1).val / 2, by omega⟩ hg]
    refine extractStridedSlice_apply _ _ _ _ _ fun a => ?_
    match a with
    | 0 => rfl
    | 1 =>
      show (256 * n.val + 128 * h.val + (j 1).val) / 2 = 128 * n.val + (64 * h.val + (j 1).val / 2)
      omega
  show Scalar.select (Scalar.cmpi .eq (parity j) 0#32) _ _ = _
  rw [rd, rd, parity_eq]
  unfold interleaved
  have e : (256 * n.val + 128 * h.val + (j 1).val) % 2 = (j 1).val % 2 := by omega
  simp only [e]
  split <;> rfl

theorem spread_apply (yl yh : FVec Ideal S32x256 .f32) (n h : Fin 2) (j : S32x128.Idx) :
    spread yl yh n h j
      = interleaved yl yh (j 0) ⟨256 * n.val + 128 * h.val + (j 1).val, by have : (j 1).val < 128 := (j 1).isLt; omega⟩ := by
  have h0 : (j 0).val < 32 := (j 0).isLt
  have h1 : (j 1).val < 128 := (j 1).isLt
  refine (concatenate_ofFn_apply (t := S32x128) (s₁ := S8x128) 0 (fun g : Fin 4 => spreadRows yl yh n h g)
    concatenates_S8x128_S8x128_S8x128_S8x128_S32x128_d0 rfl 8 rfl j ⟨(j 0).val / 8, by omega⟩ rfl
    (ix2 ⟨(j 0).val % 8, by omega⟩ (j 1)) rfl
    (fun b hb => by match b with | 0 => exact absurd rfl hb | 1 => rfl)).trans ?_
  rw [spreadRows_apply]
  congr 1
  apply Fin.ext
  show 8 * ((j 0).val / 8) + (j 0).val % 8 = (j 0).val
  omega

end Cert.KernelIdeal.Rows

end
-- ==== Proof.Stores.lean ====
/- What the stored pieces amount to: the output, the two scale arrays and the permuted activations. -/
module

public import proofs.«01_k».proof.Proof.Spread

@[expose] public section

noncomputable section

namespace Cert.KernelIdeal.Rows

open Cert.KernelIdeal Cert.KernelIdeal.Gen Idealize.ShloMosaic Idealize.ShloMosaic.TcCoe Idealize.ShloMosaic.Tactic
open Idealize.SL.Sem

/-- The output block: the two sums interleaved. -/
theorem out_canon (y : FVec Ideal S32x256 .f32 × FVec Ideal S32x256 .f32) (j : S32x512.Idx) :
    View.canon (outPieces y) j = interleaved y.1 y.2 (j 0) (j 1) := by
  refine View.canon_apply_of_pieces (Val := Elt Ideal) (e := .bf16) (fun j : S32x512.Idx => interleaved y.1 y.2 (j 0) (j 1)) _ ?_ j ?_
  · intro p hp x
    obtain ⟨q, rfl⟩ := (List.mem_ofFn' _ _).mp hp
    refine (spread_apply _ _ _ _ x).trans ?_
    congr 1
    · exact Fin.ext (show (x 0).val = 0 + 1 * (x 0).val by omega)
    · refine Fin.ext ?_
      show 256 * (Fin.divNat (n := 2) (m := 2) q.rev).val + 128 * (Fin.modNat (n := 2) (m := 2) q.rev).val + (x 1).val
        = 256 * (Fin.divNat (n := 2) (m := 2) q.rev).val + 128 * (Fin.modNat (n := 2) (m := 2) q.rev).val + 1 * (x 1).val
      rw [Nat.one_mul]
  · have h0 : (j 0).val < 32 := (j 0).isLt
    have h1 : (j 1).val < 512 := (j 1).isLt
    refine ⟨_, (List.mem_ofFn' _ _).mpr ⟨(⟨(j 1).val / 128, by omega⟩ : Fin 4).rev, rfl⟩, ?_⟩
    rw [Rect.mem_set_unit, Fin.rev_rev]
    intro a
    match a with
    | 0 => exact ⟨Nat.zero_le _, by show (j 0).val < 0 + 32; omega⟩
    | 1 =>
      show 256 * ((j 1).val / 128 / 2) + 128 * ((j 1).val / 128 % 2) ≤ (j 1).val
        ∧ (j 1).val < 256 * ((j 1).val / 128 / 2) + 128 * ((j 1).val / 128 % 2) + 128
      omega

section Scales

variable (arg4 : Memref sig .tc .vmem S128x512 .f32) (harg4 : arg4.IsWhole) (x3 : Vec Ideal S128x512 .f32)

theorem absmaxTile_apply (n h : Fin 2) (g : Fin 16) (j : S8x128.Idx) :
    absmaxTile arg4 (harg4.unread x3) n h g j
      = x3 (ix2 ⟨8 * g.val + (j 0).val, by have : (j 0).val < 8 := (j 0).isLt; omega⟩
          ⟨256 * n.val + 128 * h.val + (j 1).val, by have : (j 1).val < 128 := (j 1).isLt; omega⟩) := by
  unfold absmaxTile
  rw [View.readAt_eq_ld, harg4.read_unread]
  refine congrArg x3 (funext fun a => ?_)
  match a with
  | 0 => exact Fin.ext (show 8 * g.val + 1 * (j 0).val = _ by rw [Nat.one_mul]; rfl)
  | 1 => exact Fin.ext (show 256 * n.val + 128 * h.val + 1 * (j 1).val = _ by rw [Nat.one_mul]; rfl)

theorem add_unit {α : Type} (v : S8x128.Idx → α) (j : S1x8x128.Idx) :
    shapeCast S1x8x128 v shapeCasts_S8x128_S1x8x128 j = v (ix2 (j 1) (j 2)) :=
  (shapeCast_addUnit_apply ![8, 128] v shapeCasts_S8x128_S1x8x128 j).trans
    (congrArg v (funext fun a => by match a with | 0 => rfl | 1 => rfl))

theorem even_gather (x : Vec Ideal S8x128 .f32) (i : S8x128.Idx) :
    k0_pay775 (F := Ideal) k0_pay772 x i
      = x (ix2 (i 0) ⟨if (i 1).val < 64 then 2 * (i 1).val else 2 * (i 1).val - 127,
          by have : (i 1).val < 128 := (i 1).isLt; split <;> omega⟩) :=
  gather_lane x k0_pay772 i _ (even_toNat i)

theorem odd_gather (x : Vec Ideal S8x128 .f32) (i : S8x128.Idx) :
    k0_pay776 (F := Ideal) k0_pay773 x i
      = x (ix2 (i 0) ⟨if (i 1).val < 64 then 2 * (i 1).val + 1 else 2 * (i 1).val - 128,
          by have : (i 1).val < 128 := (i 1).isLt; split <;> omega⟩) :=
  gather_lane x k0_pay773 i _ (odd_toNat i)

/-- The even columns of 256, brought together. -/
theorem low_mix (n : Fin 2) (g : Fin 16) (i : S8x128.Idx) :
    Scalar.select (k0_pay771 i) (k0_pay775 (F := Ideal) k0_pay772 (absmaxTile arg4 (harg4.unread x3) n 0 g) i)
      (k0_pay776 (F := Ideal) k0_pay773 (absmaxTile arg4 (harg4.unread x3) n 1 g) i)
      = x3 (ix2 ⟨8 * g.val + (i 0).val, by have : (i 0).val < 8 := (i 0).isLt; omega⟩
          ⟨256 * n.val + 2 * (i 1).val, by have : (i 1).val < 128 := (i 1).isLt; omega⟩) := by
  have h1 : (i 1).val < 128 := (i 1).isLt
  rw [lower_eq, even_gather, odd_gather, absmaxTile_apply, absmaxTile_apply]
  by_cases hl : (i 1).val < 64
  · simp only [if_pos hl]
    refine congrArg x3 (congrArg₂ _ rfl (Fin.ext ?_))
    show 256 * n.val + 128 * 0 + 2 * (i 1).val = 256 * n.val + 2 * (i 1).val
    omega
  · simp only [if_neg hl]
    refine congrArg x3 (congrArg₂ _ rfl (Fin.ext ?_))
    show 256 * n.val + 128 * 1 + (2 * (i 1).val - 128) = 256 * n.val + 2 * (i 1).val
    omega

/-- The odd columns of 256, brought together half a vector apart. -/
theorem high_mix (n : Fin 2) (g : Fin 16) (i : S8x128.Idx) (l : Fin 128) (hi : (i 1).val = (l.val + 64) % 128) :
    Scalar.select (k0_pay771 i) (k0_pay776 (F := Ideal) k0_pay773 (absmaxTile arg4 (harg4.unread x3) n 1 g) i)
      (k0_pay775 (F := Ideal) k0_pay772 (absmaxTile arg4 (harg4.unread x3) n 0 g) i)
      = x3 (ix2 ⟨8 * g.val + (i 0).val, by have : (i 0).val < 8 := (i 0).isLt; omega⟩ ⟨256 * n.val + (2 * l.val + 1), by omega⟩) := by
  have h1 : (i 1).val < 128 := (i 1).isLt
  rw [lower_eq, even_gather, odd_gather, absmaxTile_apply, absmaxTile_apply]
  by_cases hl : (i 1).val < 64
  · simp only [if_pos hl]
    refine congrArg x3 (congrArg₂ _ rfl (Fin.ext ?_))
    show 256 * n.val + 128 * 1 + (2 * (i 1).val + 1) = 256 * n.val + (2 * l.val + 1)
    omega
  · simp only [if_neg hl]
    refine congrArg x3 (congrArg₂ _ rfl (Fin.ext ?_))
    show 256 * n.val + 128 * 0 + (2 * (i 1).val - 127) = 256 * n.val + (2 * l.val + 1)
    omega

/-- The scale of the low code of byte column `128 n + l`: the even column of the point's scales. -/
theorem low_tile (n : Fin 2) (g : Fin 16) (j : S1x8x128.Idx) :
    k0_pay777 (F := Ideal) k0_pay771 k0_pay772 k0_pay773 (absmaxTile arg4 (harg4.unread x3) n 0 g) (absmaxTile arg4 (harg4.unread x3) n 1 g) j
      = x3 (ix2 ⟨8 * g.val + (j 1).val, by have : (j 1).val < 8 := (j 1).isLt; omega⟩
          ⟨256 * n.val + 2 * (j 2).val, by have : (j 2).val < 128 := (j 2).isLt; omega⟩) := by
  unfold k0_pay777
  exact (add_unit _ j).trans (low_mix arg4 harg4 x3 n g (ix2 (j 1) (j 2)))

/-- The scale of the high code of byte column `128 n + l`: the odd column of the point's scales. -/
theorem high_tile (n : Fin 2) (g : Fin 16) (j : S1x8x128.Idx) :
    k0_pay778 (F := Ideal) k0_pay771 k0_pay772 k0_pay773 k0_pay774 (absmaxTile arg4 (harg4.unread x3) n 0 g) (absmaxTile arg4 (harg4.unread x3) n 1 g) j
      = x3 (ix2 ⟨8 * g.val + (j 1).val, by have : (j 1).val < 8 := (j 1).isLt; omega⟩
          ⟨256 * n.val + (2 * (j 2).val + 1), by have : (j 2).val < 128 := (j 2).isLt; omega⟩) := by
  unfold k0_pay778
  exact (add_unit _ j).trans ((gather_lane _ k0_pay774 (ix2 (j 1) (j 2)) ⟨((j 2).val + 64) % 128, Nat.mod_lt _ (by decide)⟩ (back_toNat _)).trans
    (high_mix arg4 harg4 x3 n g (ix2 (j 1) ⟨((j 2).val + 64) % 128, Nat.mod_lt _ (by decide)⟩) (j 2) rfl))

/-- Every index of a scale array lies in one of the tiles. -/
theorem scale_cover (j : S16x8x256.Idx) : ∃ q : Fin 32,
    j ∈ (Rect.unit (s := S16x8x256) ![(tileG q).val, 0, 128 * (tileN q).val] S1x8x128.size (scaleTile_inb _ _)).set := by
  have h0 : (j 0).val < 16 := (j 0).isLt
  have h1 : (j 1).val < 8 := (j 1).isLt
  have h2 : (j 2).val < 256 := (j 2).isLt
  refine ⟨(⟨16 * ((j 2).val / 128) + (j 0).val, by omega⟩ : Fin 32).rev, ?_⟩
  rw [Rect.mem_set_unit]
  unfold tileG tileN
  rw [Fin.rev_rev]
  intro a
  match a with
  | 0 =>
    show (16 * ((j 2).val / 128) + (j 0).val) % 16 ≤ (j 0).val ∧ (j 0).val < (16 * ((j 2).val / 128) + (j 0).val) % 16 + 1
    omega
  | 1 => exact ⟨Nat.zero_le _, by show (j 1).val < 0 + 8; omega⟩
  | 2 =>
    show 128 * ((16 * ((j 2).val / 128) + (j 0).val) / 16) ≤ (j 2).val
      ∧ (j 2).val < 128 * ((16 * ((j 2).val / 128) + (j 0).val) / 16) + 128
    omega

theorem low_canon (j : S16x8x256.Idx) :
    View.canon (lowPieces arg4 (harg4.unread x3)) j
      = x3 (ix2 ⟨8 * (j 0).val + (j 1).val, by have : (j 0).val < 16 := (j 0).isLt; have : (j 1).val < 8 := (j 1).isLt; omega⟩
          ⟨2 * (j 2).val, by have : (j 2).val < 256 := (j 2).isLt; omega⟩) := by
  refine View.canon_apply_of_pieces (Val := Elt Ideal) (e := .f32) (fun j : S16x8x256.Idx =>
    x3 (ix2 ⟨8 * (j 0).val + (j 1).val, by have : (j 0).val < 16 := (j 0).isLt; have : (j 1).val < 8 := (j 1).isLt; omega⟩
          ⟨2 * (j 2).val, by have : (j 2).val < 256 := (j 2).isLt; omega⟩)) _ ?_ j ?_
  · intro p hp x
    obtain ⟨q, rfl⟩ := (List.mem_ofFn' _ _).mp hp
    have hx : (x 0).val < 1 := (x 0).isLt
    refine (low_tile arg4 harg4 x3 _ _ x).trans ?_
    refine congrArg x3 (congrArg₂ _ (Fin.ext ?_) (Fin.ext ?_))
    · show 8 * (tileG q).val + (x 1).val = 8 * ((tileG q).val + 1 * (x 0).val) + (0 + 1 * (x 1).val)
      omega
    · show 256 * (tileN q).val + 2 * (x 2).val = 2 * (128 * (tileN q).val + 1 * (x 2).val)
      omega
  · obtain ⟨q, hq⟩ := scale_cover j
    exact ⟨_, (List.mem_ofFn' _ _).mpr ⟨q, rfl⟩, hq⟩

theorem high_canon (j : S16x8x256.Idx) :
    View.canon (highPieces arg4 (harg4.unread x3)) j
      = x3 (ix2 ⟨8 * (j 0).val + (j 1).val, by have : (j 0).val < 16 := (j 0).isLt; have : (j 1).val < 8 := (j 1).isLt; omega⟩
          ⟨2 * (j 2).val + 1, by have : (j 2).val < 256 := (j 2).isLt; omega⟩) := by
  refine View.canon_apply_of_pieces (Val := Elt Ideal) (e := .f32) (fun j : S16x8x256.Idx =>
    x3 (ix2 ⟨8 * (j 0).val + (j 1).val, by have : (j 0).val < 16 := (j 0).isLt; have : (j 1).val < 8 := (j 1).isLt; omega⟩
          ⟨2 * (j 2).val + 1, by have : (j 2).val < 256 := (j 2).isLt; omega⟩)) _ ?_ j ?_
  · intro p hp x
    obtain ⟨q, rfl⟩ := (List.mem_ofFn' _ _).mp hp
    have hx : (x 0).val < 1 := (x 0).isLt
    refine (high_tile arg4 harg4 x3 _ _ x).trans ?_
    refine congrArg x3 (congrArg₂ _ (Fin.ext ?_) (Fin.ext ?_))
    · show 8 * (tileG q).val + (x 1).val = 8 * ((tileG q).val + 1 * (x 0).val) + (0 + 1 * (x 1).val)
      omega
    · show 256 * (tileN q).val + (2 * (x 2).val + 1) = 2 * (128 * (tileN q).val + 1 * (x 2).val) + 1
      omega
  · obtain ⟨q, hq⟩ := scale_cover j
    exact ⟨_, (List.mem_ofFn' _ _).mpr ⟨q, rfl⟩, hq⟩

end Scales

section Acts

variable (arg1 : Memref sig .tc .vmem S32x8192 .bf16) (harg1 : arg1.IsWhole) (x0 : Vec Ideal S32x8192 .bf16)

theorem actTile_apply (g : Fin 2) (l : Fin 64) (j : S16x128.Idx) :
    actTile arg1 (harg1.unread x0) g l j
      = x0 (ix2 ⟨16 * g.val + (j 0).val, by have : (j 0).val < 16 := (j 0).isLt; omega⟩
          ⟨128 * l.val + (j 1).val, by have : (j 1).val < 128 := (j 1).isLt; omega⟩) := by
  unfold actTile
  rw [View.readAt_eq_ld, harg1.read_unread]
  refine congrArg x0 (funext fun a => ?_)
  match a with
  | 0 => exact Fin.ext (show 16 * g.val + 1 * (j 0).val = _ by rw [Nat.one_mul]; rfl)
  | 1 => exact Fin.ext (show 128 * l.val + 1 * (j 1).val = _ by rw [Nat.one_mul]; rfl)

/-- Sixteen rows gathered along the lanes, eight at a time. -/
theorem permuted_tile (x : Vec Ideal S16x128 .bf16) (j : S16x128.Idx) :
    k0_pay2 lanes x j = x (ix2 (j 0) ⟨origin (j 1).val, origin_lt (n := 4) (j 1).isLt⟩) := by
  have h0 : (j 0).val < 16 := (j 0).isLt
  have h1 : (j 1).val < 128 := (j 1).isLt
  have rd : ∀ (o : Fin 2) (h : S16x128.Slices ![8 * o.val, 0] S8x128) (i : S8x128.Idx),
      dynamicGather 1 (extractStridedSlice S8x128 ![8 * o.val, 0] (x : S16x128.Idx → Ideal .f32) h)
      (shapeCast S8x128 (shapeCast S8x128x1 (k0_pay1 lanes) shapeCasts_S8x128_S8x128x1) shapeCasts_S8x128x1_S8x128) i
      = x (ix2 ⟨8 * o.val + (i 0).val, by have : (i 0).val < 8 := (i 0).isLt; omega⟩ ⟨origin (i 1).val, origin_lt (n := 4) (i 1).isLt⟩) := by
    intro o h i
    refine (gather_lane _ _ i ⟨origin (i 1).val, origin_lt (n := 4) (i 1).isLt⟩ (perm_toNat i)).trans ?_
    refine extractStridedSlice_apply _ _ _ _ _ fun a => ?_
    match a with
    | 0 => rfl
    | 1 => exact (Nat.zero_add _).symm
  unfold k0_pay2
  dsimp only
  rw [shapeCast_self, shapeCast_self]
  show concatenate S16x128 0 [⟨S8x128, _⟩, ⟨S8x128, _⟩] concatenates_S8x128_S8x128_S16x128_d0 j = _
  by_cases hl : (j 0).val < 8
  · refine (concatenate_pair_apply_left (t := S16x128) 0 _ _ concatenates_S8x128_S8x128_S16x128_d0 j rfl (ix2 ⟨(j 0).val, hl⟩ (j 1)) ?_).trans ?_
    · intro b
      match b with
      | 0 => rfl
      | 1 => rfl
    · refine (rd 0 _ _).trans (congrArg x (congrArg₂ _ (Fin.ext ?_) rfl))
      show 8 * 0 + (j 0).val = (j 0).val
      omega
  · refine (concatenate_pair_apply_right (t := S16x128) 0 _ _ concatenates_S8x128_S8x128_S16x128_d0 j rfl rfl (ix2 ⟨(j 0).val - 8, by omega⟩ (j 1)) ?_ ?_).trans ?_
    · intro b hb
      match b with
      | 0 => exact absurd rfl hb
      | 1 => rfl
    · show (j 0).val - 8 + 8 = (j 0).val
      omega
    · refine (rd 1 _ _).trans (congrArg x (congrArg₂ _ (Fin.ext ?_) rfl))
      show 8 * 1 + ((j 0).val - 8) = (j 0).val
      omega

theorem origin_tile (l p : ℕ) : origin (128 * l + p) = 128 * l + origin p := by
  unfold origin
  have e : (128 * l + p) % 32 = p % 32 := by omega
  rw [e]; split <;> omega

/-- The carried activations: each group of 32 columns permuted. -/
def permuted (j : S32x8192.Idx) : Ideal .bf16 := x0 (ix2 (j 0) ⟨origin (j 1).val, origin_lt (n := 256) (j 1).isLt⟩)

theorem act_canon : View.canon (actPieces arg1 (harg1.unread x0)) = permuted x0 := by
  funext j
  refine View.canon_apply_of_pieces (Val := Elt Ideal) (e := .bf16) (permuted x0) _ ?_ j ?_
  · intro p hp x
    obtain ⟨q, rfl⟩ := (List.mem_ofFn' _ _).mp hp
    refine (permuted_tile _ x).trans ((actTile_apply arg1 harg1 x0 _ _ _).trans ?_)
    refine congrArg x0 (congrArg₂ _ (Fin.ext ?_) (Fin.ext ?_))
    · show 16 * (tileM q).val + (x 0).val = 16 * (tileM q).val + 1 * (x 0).val
      omega
    · show 128 * (tileL q).val + origin (x 1).val = origin (128 * (tileL q).val + 1 * (x 1).val)
      rw [Nat.one_mul, origin_tile]
  · have h0 : (j 0).val < 32 := (j 0).isLt
    have h1 : (j 1).val < 8192 := (j 1).isLt
    refine ⟨_, (List.mem_ofFn' _ _).mpr ⟨(⟨2 * ((j 1).val / 128) + (j 0).val / 16, by omega⟩ : Fin 128).rev, rfl⟩, ?_⟩
    rw [Rect.mem_set_unit]
    unfold tileL tileM
    rw [Fin.rev_rev]
    intro a
    match a with
    | 0 =>
      show 16 * ((2 * ((j 1).val / 128) + (j 0).val / 16) % 2) ≤ (j 0).val
        ∧ (j 0).val < 16 * ((2 * ((j 1).val / 128) + (j 0).val / 16) % 2) + 16
      omega
    | 1 =>
      show 128 * ((2 * ((j 1).val / 128) + (j 0).val / 16) / 2) ≤ (j 1).val
        ∧ (j 1).val < 128 * ((2 * ((j 1).val / 128) + (j 0).val / 16) / 2) + 128
      omega

end Acts

end Cert.KernelIdeal.Rows

end
-- ==== Proof.Decode.lean ====
/- What one piece of 16 decoded rows holds.

   A byte holds two codes of four bits. A row of a piece is the table entry of one code of one byte, times
   the scale of its column. -/
module

public import proofs.«01_k».proof.Proof.Stores
public import Idealize.ShloMosaic.Lib.BitcastFour
public import Idealize.ShloMosaic.Lib.ValueLayout

@[expose] public section

noncomputable section

namespace Cert.KernelIdeal.Rows

open Cert.KernelIdeal Cert.KernelIdeal.Gen Idealize.ShloMosaic Idealize.ShloMosaic.TcCoe Idealize.ShloMosaic.Tactic
open Idealize.SL.Sem

/-- The code of parity `h` in a byte: the low four bits or the high four. -/
def nibble (h : Fin 2) (b : BitVec 8) : Fin 16 := ⟨(b.extractLsb' (4 * h.val) 4).toNat, (b.extractLsb' (4 * h.val) 4).isLt⟩

theorem bits_low (W : BitVec 32) (hh p : Nat) (h1 : hh < 2) (h2 : p < 2) :
    IntOp.andi (IntOp.shrsi .vector (((IntOp.andi (IntOp.shli .vector W 1#32) 505290270#32).extractLsb' (16 * hh) 16).signExtend 32)
      (BitVec.ofNat 32 (1 + 8 * p))) 15#32 = (W.extractLsb' (16 * hh + 8 * p) 4).setWidth 32 := by
  apply BitVec.eq_of_getLsbD_eq
  intro i hi
  interval_cases hh <;> interval_cases p <;> interval_cases i <;>
    simp [IntOp.andi, IntOp.shli, IntOp.shrsi, BitVec.getElem_sshiftRight, BitVec.getElem_signExtend]

theorem bits_high (W : BitVec 32) (hh p : Nat) (h1 : hh < 2) (h2 : p < 2) :
    IntOp.andi (IntOp.shrsi .vector (((IntOp.andi (IntOp.shrsi .vector W 3#32) 505290270#32).extractLsb' (16 * hh) 16).signExtend 32)
      (BitVec.ofNat 32 (1 + 8 * p))) 15#32 = (W.extractLsb' (16 * hh + 8 * p + 4) 4).setWidth 32 := by
  apply BitVec.eq_of_getLsbD_eq
  intro i hi
  interval_cases hh <;> interval_cases p <;> interval_cases i <;>
    simp [IntOp.andi, IntOp.shli, IntOp.shrsi, BitVec.getElem_sshiftRight, BitVec.getElem_signExtend]

/-- Four bits of a word of four bytes are the bits of one of the bytes. -/
theorem word_bits (w : Vec Ideal S32x128 .i8) (a : Fin 8) (l : Fin 128) (b : Fin 4) (h : Fin 2) (r : Fin 32)
    (hr : r.val = 4 * a.val + b.val) :
    (word w (ix2 a l)).extractLsb' (8 * b.val + 4 * h.val) 4
      = (show BitVec 8 from w (ix2 r l)).extractLsb' (4 * h.val) 4 := by
  apply BitVec.eq_of_getLsbD_eq
  intro i hi
  rw [BitVec.getLsbD_extractLsb', BitVec.getLsbD_extractLsb']
  congr 1
  refine (bitcast_8_32_getLsbD_ix2 (R := 32) (r := 8) (n := 128) w bitcasts_S32x128_w8_S8x128_w32 a l _ (by omega) r (by omega)).trans ?_
  congr 1
  omega

/-- A table entry: row `c` is code value `c`, scaled; the even code values come first in the given rows. -/
theorem table_apply (ev od : Vec Ideal S8x128 .f32) (s : Vec Ideal S1x1x128 .f32) (c : Fin 16) (l : Fin 128) :
    table ev od s (ix2 c l) = (if c.val % 2 = 0 then ev (ix2 ⟨c.val / 2, by omega⟩ l) else od (ix2 ⟨c.val / 2, by omega⟩ l))
      * s (ix3 0 0 l) := by
  have e : ∀ v : Vec Ideal S8x128 .f32, ∀ a : Fin 8,
      (truncf .bf16 (mulf (shapeCast S8x128 v shapeCasts_S8x128_S8x128 : FVec Ideal S8x128 .f32)
        (broadcastTo S8x128 (shapeCast S1x128 s shapeCasts_S1x1x128_S1x128) broadcasts_S1x128_S8x128))
        : FVec Ideal S8x128 .bf16) (ix2 a l) = v (ix2 a l) * s (ix3 0 0 l) := by
    intro v a
    show (shapeCast S8x128 v shapeCasts_S8x128_S8x128 : FVec Ideal S8x128 .f32) (ix2 a l)
      * broadcastTo S8x128 (shapeCast S1x128 s shapeCasts_S1x1x128_S1x128) broadcasts_S1x128_S8x128 (ix2 a l) = _
    congr 1
    · rw [shapeCast_self]
    · refine (broadcastTo_apply _ _ (ix2 a l) (ix2 0 l) ?_).trans (ValueIdx.shapeCast_1ab_ab_apply (a := 1) (b := 128) s shapeCasts_S1x1x128_S1x128 0 l)
      intro b
      match b with
      | 0 => rfl
      | 1 => rfl
  refine (interleaveRows_apply _ _ _ _).trans ?_
  show (if c.val % 2 = 0 then _ else _) = _
  split
  · exact (congrArg _ (by funext a; match a with | 0 => rfl | 1 => rfl)).trans (e ev ⟨c.val / 2, Nat.div_lt_of_lt_mul c.isLt⟩)
  · exact (congrArg _ (by funext a; match a with | 0 => rfl | 1 => rfl)).trans (e od ⟨c.val / 2, Nat.div_lt_of_lt_mul c.isLt⟩)

/-- The table row a code selects. -/
theorem look_apply (t : FVec Ideal S16x128 .bf16) (v : IVec S8x128 32) (sh : BitVec 32) (u : Fin 16) (l : Fin 128) (c : Fin 16)
    (hc : IntOp.andi (IntOp.shrsi .vector (((v (ix2 ⟨u.val / 2, by omega⟩ l)).extractLsb' (16 * (u.val % 2)) 16).signExtend 32) sh) 15#32
      = BitVec.ofNat 32 c.val) :
    look t v sh (ix2 u l) = t (ix2 c l) := by
  unfold look
  rw [shapeCast_shapeCast]
  refine (dynamicGather_apply _ _ _ _).trans ?_
  refine congrArg t ?_
  funext a
  match a with
  | 1 => rfl
  | 0 =>
    refine Fin.ext ?_
    show BitVec.toNat (IntOp.andi (IntOp.shrsi .vector (BitVec.signExtend 32 (bitcast S16x128 16 v bitcasts_S8x128_w32_S16x128_w16 (ix2 u l))) sh) 15#32) % 16 = c.val
    rw [bitcast_32_16]
    have e : bitcasts_S8x128_w32_S16x128_w16.srcIdx (ix2 u l) (u.val / 2) (fun a ha => by
        match a with
        | 0 => show u.val / 2 < 8; omega) = ix2 ⟨u.val / 2, by omega⟩ l := by
      funext a
      match a with
      | 0 => rfl
      | 1 => rfl
    refine (congrArg (fun z => BitVec.toNat z % 16) ((congrArg (fun z : S8x128.Idx => IntOp.andi (IntOp.shrsi .vector (((v z).extractLsb' (16 * (u.val % 2)) 16).signExtend 32) sh) 15#32) e).trans hc)).trans ?_
    have := c.isLt
    show c.val % 2 ^ 32 % 16 = c.val
    omega

/-- The table entry of code `c` when the code values stand in 16 rows, the even ones first. -/
def entry (c : Fin 16) : Fin 16 := ⟨8 * (c.val % 2) + c.val / 2, by omega⟩

/-- A row of a piece decoded from the low codes. -/
theorem look_low (t : FVec Ideal S16x128 .bf16) (w : Vec Ideal S32x128 .i8) (p : Nat) (hp : p < 2) (u : Fin 16) (l : Fin 128) :
    look t (lowCodes w) (BitVec.ofNat 32 (1 + 8 * p)) (ix2 u l) = t (ix2 (nibble 0 (w (ix2 ⟨2 * u.val + p, by omega⟩ l))) l) := by
  refine look_apply t _ _ u l _ ?_
  refine (bits_low (word w (ix2 ⟨u.val / 2, by omega⟩ l)) (u.val % 2) p (by omega) hp).trans ?_
  have := word_bits w ⟨u.val / 2, by omega⟩ l ⟨2 * (u.val % 2) + p, by omega⟩ 0 ⟨2 * u.val + p, by omega⟩
    (by show 2 * u.val + p = 4 * (u.val / 2) + (2 * (u.val % 2) + p); omega)
  rw [show 16 * (u.val % 2) + 8 * p = 8 * (2 * (u.val % 2) + p) + 4 * (0 : Fin 2).val by simp; omega]
  refine (congrArg (BitVec.setWidth 32) this).trans ?_
  exact (BitVec.ofNat_toNat ..).symm

/-- A row of a piece decoded from the high codes. -/
theorem look_high (t : FVec Ideal S16x128 .bf16) (w : Vec Ideal S32x128 .i8) (p : Nat) (hp : p < 2) (u : Fin 16) (l : Fin 128) :
    look t (highCodes w) (BitVec.ofNat 32 (1 + 8 * p)) (ix2 u l) = t (ix2 (nibble 1 (w (ix2 ⟨2 * u.val + p, by omega⟩ l))) l) := by
  refine look_apply t _ _ u l _ ?_
  refine (bits_high (word w (ix2 ⟨u.val / 2, by omega⟩ l)) (u.val % 2) p (by omega) hp).trans ?_
  have := word_bits w ⟨u.val / 2, by omega⟩ l ⟨2 * (u.val % 2) + p, by omega⟩ 1 ⟨2 * u.val + p, by omega⟩
    (by show 2 * u.val + p = 4 * (u.val / 2) + (2 * (u.val % 2) + p); omega)
  rw [show 16 * (u.val % 2) + 8 * p + 4 = 8 * (2 * (u.val % 2) + p) + 4 * (1 : Fin 2).val by simp; omega]
  refine (congrArg (BitVec.setWidth 32) this).trans ?_
  exact (BitVec.ofNat_toNat ..).symm

end Cert.KernelIdeal.Rows
-- ==== Proof.Weights.lean ====
/- The decoded weights of a trip, row by row, in terms of the kernel's operands. -/
module

public import proofs.«01_k».proof.Proof.Decode

@[expose] public section

noncomputable section

namespace Cert.KernelIdeal.Rows

open Cert.KernelIdeal Cert.KernelIdeal.Gen Idealize.ShloMosaic Idealize.ShloMosaic.TcCoe Idealize.ShloMosaic.Tactic
open Idealize.SL.Sem

/-- The weight in row `k` of the code of parity `h` of byte column `j`: the code's value times the scale of
    the 64 rows it lies in. -/
def weight (x1 : Vec Ideal S16x128 .f32) (x2 : Vec Ideal S8192x256 .i8) (x3 : Vec Ideal S128x512 .f32)
    (h : Fin 2) (k : Fin 8192) (j : Fin 256) : EReal :=
  (x1 (ix2 (entry (nibble h (x2 (ix2 k j)))) ⟨j.val % 128, by omega⟩) : EReal)
    * x3 (ix2 ⟨k.val / 64, by omega⟩ ⟨2 * j.val + h.val, by omega⟩)

/-- The row of a piece that a row of the stack is. -/
theorem stack_apply (f : Fin 64 → FVec Ideal S16x128 .bf16) (r : Fin 1024) (l : Fin 128) :
    stack f (ix2 r l) = f ⟨r.val / 16, by omega⟩ (ix2 ⟨r.val % 16, by omega⟩ l) := by
  refine concatenate_ofFn_apply (t := S1024x128) (s₁ := S16x128) 0 f _ rfl 16 rfl (ix2 r l) ⟨r.val / 16, by omega⟩ rfl
    (ix2 ⟨r.val % 16, by omega⟩ l) rfl ?_
  intro b hb
  match b with
  | 0 => exact absurd rfl hb
  | 1 => rfl

section

variable (arg2 : Memref sig .tc .vmem S16x128 .f32) (harg2 : arg2.IsWhole) (arg3 : Memref sig .tc .vmem S8192x256 .i8) (harg3 : arg3.IsWhole)
  (arg4 : Memref sig .tc .vmem S128x512 .f32) (harg4 : arg4.IsWhole) (s : Memref sig .tc .vmem S16x8x256 .f32)
  (x1 : Vec Ideal S16x128 .f32) (x2 : Vec Ideal S8192x256 .i8) (x3 : Vec Ideal S128x512 .f32) (k : Fin k0_t1_loop.trips) (n : Fin 2)

include harg2 in
theorem tableRows_apply (h : Fin 2) (a : Fin 8) (l : Fin 128) :
    tableRows arg2 (harg2.unread x1) h (ix2 a l) = x1 (ix2 ⟨8 * h.val + a.val, by omega⟩ l) := by
  unfold tableRows
  rw [View.readAt_eq_ld, harg2.read_unread]
  refine congrArg x1 ?_
  funext b
  match b with
  | 0 => exact Fin.ext (show 8 * h.val + 1 * a.val = 8 * h.val + a.val by omega)
  | 1 => exact Fin.ext (show 0 + 1 * l.val = l.val by omega)

/-- A table entry is a row of the kernel's table, scaled. -/
theorem table_entry (z : Vec Ideal S1x1x128 .f32) (c : Fin 16) (l : Fin 128) :
    table (tableRows arg2 (harg2.unread x1) 0) (tableRows arg2 (harg2.unread x1) 1) z (ix2 c l)
      = (x1 (ix2 (entry c) l) : EReal) * z (ix3 0 0 l) := by
  refine (table_apply _ _ z c l).trans ?_
  congr 1
  split
  · next h =>
    refine (tableRows_apply arg2 harg2 x1 0 _ l).trans (congrArg x1 (congrArg₂ _ (Fin.ext ?_) rfl))
    show 8 * 0 + c.val / 2 = 8 * (c.val % 2) + c.val / 2
    omega
  · next h =>
    refine (tableRows_apply arg2 harg2 x1 1 _ l).trans (congrArg x1 (congrArg₂ _ (Fin.ext ?_) rfl))
    show 8 * 1 + c.val / 2 = 8 * (c.val % 2) + c.val / 2
    omega

theorem bytes_apply (b : Fin 16) (r : Fin 2) (y : Fin 32) (l : Fin 128) (K : Fin 8192) (J : Fin 256)
    (hK : K.val = 1024 * k.val + 64 * b.val + 32 * r.val + y.val) (hJ : J.val = 128 * n.val + l.val) :
    bytes arg3 (harg3.unread x2) k n b r (ix2 y l) = x2 (ix2 K J) := by
  unfold bytes
  rw [View.readAt_eq_ld, harg3.read_unread]
  refine congrArg x2 ?_
  have e := bytesAt_eq k n b r
  funext a
  match a with
  | 0 =>
    refine Fin.ext ?_
    show bytesAt k n b r 0 + 1 * y.val = K.val
    rw [e, hK]
    show 1024 * k.val + 64 * b.val + 32 * r.val + 1 * y.val = _
    omega
  | 1 =>
    refine Fin.ext ?_
    show bytesAt k n b r 1 + 1 * l.val = J.val
    rw [e, hJ]
    show 128 * n.val + 1 * l.val = _
    omega

/-- A scale row at a lane, from what the scale array holds. -/
theorem scaleRow_apply (L : List (View.Piece (Elt Ideal) S16x8x256 .f32)) (h : Fin 2)
    (hL : ∀ j : S16x8x256.Idx, View.canon L j
      = x3 (ix2 ⟨8 * (j 0).val + (j 1).val, by have : (j 0).val < 16 := (j 0).isLt; have : (j 1).val < 8 := (j 1).isLt; omega⟩
          ⟨2 * (j 2).val + h.val, by have : (j 2).val < 256 := (j 2).isLt; omega⟩))
    (b : Fin 16) (l : Fin 128) (K : Fin 128) (J : Fin 512)
    (hK : K.val = 16 * k.val + b.val) (hJ : J.val = 2 * (128 * n.val + l.val) + h.val) :
    scaleRow s (s.view.writes (Elt Ideal) s.view.junk L) k n b (ix3 0 0 l) = x3 (ix2 K J) := by
  unfold scaleRow
  rw [View.readAt_writes_junk_eq_canon]
  refine (hL _).trans (congrArg x3 (congrArg₂ _ (Fin.ext ?_) (Fin.ext ?_)))
  · show 8 * (scaleAt k n b 0 + 1 * 0) + (scaleAt k n b 1 + 1 * 0) = K.val
    rw [scaleAt_eq, hK]
    show 8 * (2 * k.val + b.val / 8 + 1 * 0) + (b.val % 8 + 1 * 0) = _
    omega
  · show 2 * (scaleAt k n b 2 + 1 * l.val) + h.val = J.val
    rw [scaleAt_eq, hJ]
    show 2 * (128 * n.val + 1 * l.val) + h.val = _
    omega

/-- Where row `r` of a trip comes from: its block, half, parity and row. -/
theorem origin_row (k r : Nat) (hr : r < 1024) :
    origin (1024 * k + r) = 1024 * k + 64 * (r / 16 / 4) + 32 * (r / 16 / 2 % 2) + (2 * (r % 16) + r / 16 % 2) := by
  unfold origin
  split <;> omega

theorem trips_eq : k0_t1_loop.trips = 8 := rfl

theorem row_lt (r : Fin 1024) : origin (1024 * k.val + r.val) < 8192 :=
  origin_lt (n := 256) (by have := k.isLt; have := trips_eq; omega)

/-- The weights decoded from the low codes. -/
theorem lowRows_apply (r : Fin 1024) (l : Fin 128) :
    lowRows (tableRows arg2 (harg2.unread x1) 0) (tableRows arg2 (harg2.unread x1) 1) arg3 (harg3.unread x2) s
        (s.view.writes (Elt Ideal) s.view.junk (lowPieces arg4 (harg4.unread x3))) k n (ix2 r l)
      = weight x1 x2 x3 0 ⟨origin (1024 * k.val + r.val), row_lt k r⟩ ⟨128 * n.val + l.val, by omega⟩ := by
  have hk : k.val < 8 := k.isLt
  have ho := origin_row k.val r.val r.isLt
  refine (stack_apply _ r l).trans ((look_low _ _ _ (Nat.mod_lt _ (by decide)) _ l).trans ((table_entry arg2 harg2 x1 _ _ l).trans ?_))
  unfold weight
  congr 1
  · refine congrArg x1 (congrArg₂ _ (congrArg (fun z => entry (nibble 0 z)) ?_) (Fin.ext ?_))
    · refine bytes_apply arg3 harg3 x2 k n _ _ _ l _ _ ?_ rfl
      exact ho
    · show l.val = (128 * n.val + l.val) % 128
      omega
  · refine scaleRow_apply s x3 k n _ 0 (low_canon arg4 harg4 x3) _ l _ _ ?_ rfl
    show origin (1024 * k.val + r.val) / 64 = 16 * k.val + r.val / 16 / 4
    omega

/-- The weights decoded from the high codes. -/
theorem highRows_apply (r : Fin 1024) (l : Fin 128) :
    highRows (tableRows arg2 (harg2.unread x1) 0) (tableRows arg2 (harg2.unread x1) 1) arg3 (harg3.unread x2) s
        (s.view.writes (Elt Ideal) s.view.junk (highPieces arg4 (harg4.unread x3))) k n (ix2 r l)
      = weight x1 x2 x3 1 ⟨origin (1024 * k.val + r.val), row_lt k r⟩ ⟨128 * n.val + l.val, by omega⟩ := by
  have hk : k.val < 8 := k.isLt
  have ho := origin_row k.val r.val r.isLt
  refine (stack_apply _ r l).trans ((look_high _ _ _ (Nat.mod_lt _ (by decide)) _ l).trans ((table_entry arg2 harg2 x1 _ _ l).trans ?_))
  unfold weight
  congr 1
  · refine congrArg x1 (congrArg₂ _ (congrArg (fun z => entry (nibble 1 z)) ?_) (Fin.ext ?_))
    · refine bytes_apply arg3 harg3 x2 k n _ _ _ l _ _ ?_ rfl
      exact ho
    · show l.val = (128 * n.val + l.val) % 128
      omega
  · refine scaleRow_apply s x3 k n _ 1 (high_canon arg4 harg4 x3) _ l _ _ ?_ rfl
    show origin (1024 * k.val + r.val) / 64 = 16 * k.val + r.val / 16 / 4
    omega

end

end Cert.KernelIdeal.Rows
-- ==== Proof.Sums.lean ====
/- What the loop's two sums hold: after all trips, the products of the activations' rows with the decoded
   weights' columns. The trips add the rows in a permuted order; over all of them every row is met once. -/
module

public import proofs.«01_k».proof.Proof.Weights
public import Idealize.ShloMosaic.Lib.MatmulPlain

@[expose] public section

noncomputable section

namespace Cert.KernelIdeal.Rows

open Cert.KernelIdeal Cert.KernelIdeal.Gen Idealize.ShloMosaic Idealize.ShloMosaic.TcCoe Idealize.ShloMosaic.Tactic
open Idealize.SL.Sem
open scoped BigOperators

/-- One product into a carried sum, at an index. -/
theorem mac_apply (acc : FVec Ideal S32x256 .f32) (x : Vec Ideal S32x1024 .bf16) (c0 c1 : FVec Ideal S1024x128 .bf16)
    (g : Fin 1024 → Fin 256 → EReal) (h0 : ∀ (r : Fin 1024) (l : Fin 128), c0 (ix2 r l) = g r ⟨l.val, by omega⟩)
    (h1 : ∀ (r : Fin 1024) (l : Fin 128), c1 (ix2 r l) = g r ⟨128 + l.val, by omega⟩) (i : Fin 32) (j : Fin 256) :
    k0_pay917 acc x c0 c1 (ix2 i j) = (acc (ix2 i j) : EReal) + ∑ r : Fin 1024, (x (ix2 i r) : EReal) * g r j := by
  have e : ∀ r : Fin 1024, concatenate S1024x256 1 [⟨S1024x128, c0⟩, ⟨S1024x128, c1⟩] concatenates_S1024x128_S1024x128_S1024x256_d1 (ix2 r j)
      = g r j := by
    intro r
    by_cases hj : j.val < 128
    · refine (concatenate_pair_apply_left (t := S1024x256) (s₁ := S1024x128) (s₂ := S1024x128) 1 c0 c1 _ (ix2 r j) rfl (ix2 r ⟨j.val, hj⟩) ?_).trans (h0 r ⟨j.val, hj⟩)
      intro b
      match b with
      | 0 => rfl
      | 1 => rfl
    · refine (concatenate_pair_apply_right (t := S1024x256) (s₁ := S1024x128) (s₂ := S1024x128) 1 c0 c1 _ (ix2 r j) rfl rfl (ix2 r ⟨j.val - 128, by omega⟩) ?_ ?_).trans
        ((h1 r ⟨j.val - 128, by omega⟩).trans (congrArg (g r) (Fin.ext ?_)))
      · intro b hb
        match b with
        | 0 => rfl
        | 1 => exact absurd rfl hb
      · show j.val - 128 + 128 = j.val
        omega
      · show 128 + (j.val - 128) = j.val
        omega
  unfold k0_pay917
  show (acc (ix2 i j) : EReal) + matmul (F := Ideal) dot_S32x1024_S1024x256_S32x256_1_0_0_1_n_n none x
    (concatenate S1024x256 1 [⟨S1024x128, c0⟩, ⟨S1024x128, c1⟩] concatenates_S1024x128_S1024x128_S1024x256_d1)
    (constant S32x256 .f32 0x00000000#32) (ix2 i j) = _
  congr 1
  refine (Ideal.matmul_plain_apply (M := 32) (K := 1024) (N := 256) none x _ _ i j).trans ?_
  show Ideal.ofBits .f32 0x00000000#32 + _ = _
  rw [Ideal.ofBits_zero_f32, zero_add]
  exact Finset.sum_congr rfl fun r _ => congrArg (fun z : EReal => (x (ix2 i r) : EReal) * z) (e r)

/-- The rows the trips meet, in their order, are all rows. -/
theorem origin_bijective : Function.Bijective fun p : Fin 8192 => (⟨origin p.val, origin_lt (n := 256) p.isLt⟩ : Fin 8192) := by
  refine Finite.injective_iff_bijective.mp fun p q h => Fin.ext ?_
  have h' : origin p.val = origin q.val := congrArg Fin.val h
  unfold origin at h'
  split at h' <;> split at h' <;> omega

/-- What position `p` of the trips' order adds. -/
def term (A : S32x8192.Idx → EReal) (x1 : Vec Ideal S16x128 .f32) (x2 : Vec Ideal S8192x256 .i8) (x3 : Vec Ideal S128x512 .f32)
    (h : Fin 2) (i : Fin 32) (j : Fin 256) (p : ℕ) : EReal :=
  if hp : p < 8192 then A (ix2 i ⟨p, hp⟩) * weight x1 x2 x3 h ⟨origin p, origin_lt (n := 256) hp⟩ j else 0

theorem acts_start : ∀ k : Fin k0_t1_loop.trips, k0_off19 k = ![0, 1024 * k.val] := by decide +kernel

section

variable (c : Dev nD) (i : grid0.Coords) (arg1 : Memref sig .tc .vmem S32x8192 .bf16) (harg1 : arg1.IsWhole) (arg2 : Memref sig .tc .vmem S16x128 .f32) (harg2 : arg2.IsWhole) (arg3 : Memref sig .tc .vmem S8192x256 .i8) (harg3 : arg3.IsWhole) (arg4 : Memref sig .tc .vmem S128x512 .f32) (harg4 : arg4.IsWhole) (arg5 : Memref sig .tc .vmem S32x512 .bf16) (harg5 : arg5.IsWhole) (arg6 : Memref sig .tc .vmem S32x8192 .bf16) (harg6 : arg6.IsWhole) (arg7 : Memref sig .tc .vmem S16x8x256 .f32) (harg7 : arg7.IsWhole) (arg8 : Memref sig .tc .vmem S16x8x256 .f32) (harg8 : arg8.IsWhole)
  (X : BufTy.Contents (Elt Ideal) arg6.view.ty) (A : S32x8192.Idx → EReal)
  (x1 : Vec Ideal S16x128 .f32) (x2 : Vec Ideal S8192x256 .i8) (x3 : Vec Ideal S128x512 .f32)

/-- Activations read through whole contents. -/
theorem acts_read (hX : ∀ B : LoadRect S32x8192, arg6.view.readAt (Elt Ideal) B X = fun j => A (B.idx j))
    (k : Fin k0_t1_loop.trips) (a : Fin 32) (r : Fin 1024) (hp : 1024 * k.val + r.val < 8192) :
    acts arg6 X k (ix2 a r) = A (ix2 a ⟨1024 * k.val + r.val, hp⟩) := by
  unfold acts
  rw [hX]
  refine congrArg A ?_
  funext b
  match b with
  | 0 =>
    refine Fin.ext ?_
    show k0_off19 k 0 + 1 * a.val = a.val
    rw [acts_start]
    show 0 + 1 * a.val = a.val
    omega
  | 1 =>
    refine Fin.ext ?_
    show k0_off19 k 1 + 1 * r.val = 1024 * k.val + r.val
    rw [acts_start]
    show 1024 * k.val + 1 * r.val = 1024 * k.val + r.val
    omega

/-- One trip at an index: the terms of the trip's 1024 positions are added. -/
theorem trip_terms (acc : EReal) (h : Fin 2) (k : Fin k0_t1_loop.trips) (a : Fin 32) (j : Fin 256)
    (hacc : acc = ∑ p ∈ Finset.range (1024 * k.val), term A x1 x2 x3 h a j p) (x : Vec Ideal S32x1024 .bf16)
    (hx : ∀ (r : Fin 1024) (hp : 1024 * k.val + r.val < 8192), x (ix2 a r) = A (ix2 a ⟨1024 * k.val + r.val, hp⟩)) :
    acc + ∑ r : Fin 1024, (x (ix2 a r) : EReal) * weight x1 x2 x3 h ⟨origin (1024 * k.val + r.val), row_lt k r⟩ j
      = ∑ p ∈ Finset.range (1024 * (k.val + 1)), term A x1 x2 x3 h a j p := by
  have hk : k.val < 8 := k.isLt
  rw [Nat.mul_add, Nat.mul_one, Finset.sum_range_add, ← hacc, Finset.sum_range]
  congr 1
  refine Finset.sum_congr rfl fun r _ => ?_
  have hp : 1024 * k.val + r.val < 8192 := by omega
  rw [hx r hp]
  unfold term
  rw [dif_pos hp]

theorem sums_apply (hX : ∀ B : LoadRect S32x8192, arg6.view.readAt (Elt Ideal) B X = fun j => A (B.idx j)) (a : Fin 32) (j : Fin 256) :
    ∀ k : ℕ, k ≤ k0_t1_loop.trips →
    (sums c i arg1 harg1 arg2 harg2 arg3 harg3 arg4 harg4 arg5 harg5 arg6 harg6 arg7 harg7 arg8 harg8 X x1 x2 x3 k).1 (ix2 a j)
        = ∑ p ∈ Finset.range (1024 * k), term A x1 x2 x3 0 a j p
    ∧ (sums c i arg1 harg1 arg2 harg2 arg3 harg3 arg4 harg4 arg5 harg5 arg6 harg6 arg7 harg7 arg8 harg8 X x1 x2 x3 k).2 (ix2 a j)
        = ∑ p ∈ Finset.range (1024 * k), term A x1 x2 x3 1 a j p := by
  intro k
  induction k with
  | zero =>
    intro _
    refine ⟨?_, ?_⟩ <;> exact Ideal.ofBits_zero_f32.trans (Finset.sum_range_zero _).symm
  | succ k ih =>
    intro hk
    obtain ⟨ih1, ih2⟩ := ih (by omega)
    have hs := (st_k0_t1_succ (F := Ideal) Variants.none c none i arg1 harg1 arg2 harg2 arg3 harg3 arg4 harg4 arg5 harg5 arg6 harg6 arg7 harg7 arg8 harg8 lanes k0_pay771 k0_pay772 k0_pay773 k0_pay774
      (tableRows arg2 (harg2.unread x1) 0) (tableRows arg2 (harg2.unread x1) 1) (harg3.unread x2) X
      (arg7.view.writes (Elt Ideal) arg7.view.junk (lowPieces arg4 (harg4.unread x3)))
      (arg8.view.writes (Elt Ideal) arg8.view.junk (highPieces arg4 (harg4.unread x3)))
      (k0_pay915, k0_pay915) ⟨k, hk⟩).trans (trip_eq ..)
    have hx := fun r hp => acts_read arg6 X A hX ⟨k, hk⟩ a r hp
    refine ⟨?_, ?_⟩
    · refine (congrArg (fun z : FVec Ideal S32x256 .f32 × FVec Ideal S32x256 .f32 => z.1 (ix2 a j)) hs).trans ?_
      refine (mac_apply _ _ _ _ (fun r j => weight x1 x2 x3 0 ⟨origin (1024 * k + r.val), row_lt ⟨k, hk⟩ r⟩ j) ?_ ?_ a j).trans ?_
      · intro r l
        refine (lowRows_apply arg2 harg2 arg3 harg3 arg4 harg4 arg7 x1 x2 x3 ⟨k, hk⟩ 0 r l).trans (congrArg _ (Fin.ext ?_))
        show 128 * 0 + l.val = l.val
        omega
      · intro r l
        refine (lowRows_apply arg2 harg2 arg3 harg3 arg4 harg4 arg7 x1 x2 x3 ⟨k, hk⟩ 1 r l).trans (congrArg _ (Fin.ext ?_))
        show 128 * 1 + l.val = 128 + l.val
        omega
      · exact trip_terms A x1 x2 x3 _ 0 ⟨k, hk⟩ a j ih1 _ hx
    · refine (congrArg (fun z : FVec Ideal S32x256 .f32 × FVec Ideal S32x256 .f32 => z.2 (ix2 a j)) hs).trans ?_
      refine (mac_apply _ _ _ _ (fun r j => weight x1 x2 x3 1 ⟨origin (1024 * k + r.val), row_lt ⟨k, hk⟩ r⟩ j) ?_ ?_ a j).trans ?_
      · intro r l
        refine (highRows_apply arg2 harg2 arg3 harg3 arg4 harg4 arg8 x1 x2 x3 ⟨k, hk⟩ 0 r l).trans (congrArg _ (Fin.ext ?_))
        show 128 * 0 + l.val = l.val
        omega
      · intro r l
        refine (highRows_apply arg2 harg2 arg3 harg3 arg4 harg4 arg8 x1 x2 x3 ⟨k, hk⟩ 1 r l).trans (congrArg _ (Fin.ext ?_))
        show 128 * 1 + l.val = 128 + l.val
        omega
      · exact trip_terms A x1 x2 x3 _ 1 ⟨k, hk⟩ a j ih2 _ hx

end

/-- All terms together: the plain sum over the rows. -/
theorem terms_all (x0 : Vec Ideal S32x8192 .bf16) (x1 : Vec Ideal S16x128 .f32) (x2 : Vec Ideal S8192x256 .i8) (x3 : Vec Ideal S128x512 .f32)
    (h : Fin 2) (a : Fin 32) (j : Fin 256) :
    ∑ p ∈ Finset.range (1024 * k0_t1_loop.trips), term (permuted x0) x1 x2 x3 h a j p
      = ∑ k : Fin 8192, (x0 (ix2 a k) : EReal) * weight x1 x2 x3 h k j := by
  refine Eq.trans ?_ (origin_bijective.sum_comp fun k : Fin 8192 => (x0 (ix2 a k) : EReal) * weight x1 x2 x3 h k j)
  rw [show 1024 * k0_t1_loop.trips = 8192 from rfl, Finset.sum_range]
  exact Finset.sum_congr rfl fun p _ => dif_pos p.isLt

end Cert.KernelIdeal.Rows
-- ==== Proof.Block.lean ====
/- What one grid point leaves: its output block, and the activations it hands to the next point. -/
module

public import proofs.«01_k».proof.Proof.Sums

@[expose] public section

noncomputable section

namespace Cert.KernelIdeal.Rows

open Cert.KernelIdeal Cert.KernelIdeal.Gen Idealize.ShloMosaic Idealize.ShloMosaic.TcCoe Idealize.ShloMosaic.Tactic
open Idealize.SL.Sem
open scoped BigOperators

/-- The output block of a point: each row of activations against each decoded column, the two codes of a
    byte giving neighbouring columns. -/
def written (x0 : Vec Ideal S32x8192 .bf16) (x1 : Vec Ideal S16x128 .f32) (x2 : Vec Ideal S8192x256 .i8) (x3 : Vec Ideal S128x512 .f32) :
    Vec Ideal S32x512 .bf16 := fun j =>
  ∑ k : Fin 8192, (x0 (ix2 (j 0) k) : EReal)
    * weight x1 x2 x3 ⟨(j 1).val % 2, by omega⟩ k ⟨(j 1).val / 2, by have : (j 1).val < 512 := (j 1).isLt; omega⟩

section

variable (c : Dev nD) (i : grid0.Coords) (arg1 : Memref sig .tc .vmem S32x8192 .bf16) (harg1 : arg1.IsWhole) (arg2 : Memref sig .tc .vmem S16x128 .f32) (harg2 : arg2.IsWhole) (arg3 : Memref sig .tc .vmem S8192x256 .i8) (harg3 : arg3.IsWhole) (arg4 : Memref sig .tc .vmem S128x512 .f32) (harg4 : arg4.IsWhole) (arg5 : Memref sig .tc .vmem S32x512 .bf16) (harg5 : arg5.IsWhole) (arg6 : Memref sig .tc .vmem S32x8192 .bf16) (harg6 : arg6.IsWhole) (arg7 : Memref sig .tc .vmem S16x8x256 .f32) (harg7 : arg7.IsWhole) (arg8 : Memref sig .tc .vmem S16x8x256 .f32) (harg8 : arg8.IsWhole)
  (x0 : Vec Ideal S32x8192 .bf16) (x1 : Vec Ideal S16x128 .f32) (x2 : Vec Ideal S8192x256 .i8) (x3 : Vec Ideal S128x512 .f32)

/-- The stored pieces are the output block, whenever the scratch reads as the permuted activations. -/
theorem pieces_written (X : BufTy.Contents (Elt Ideal) arg6.view.ty)
    (hX : ∀ B : LoadRect S32x8192, arg6.view.readAt (Elt Ideal) B X = fun j => permuted x0 (B.idx j)) :
    View.canon (outPieces (sums c i arg1 harg1 arg2 harg2 arg3 harg3 arg4 harg4 arg5 harg5 arg6 harg6 arg7 harg7 arg8 harg8 X x1 x2 x3 k0_t1_loop.trips))
      = written x0 x1 x2 x3 := by
  funext j
  have h1 : (j 1).val < 512 := (j 1).isLt
  refine (out_canon _ j).trans ?_
  have hs := sums_apply c i arg1 harg1 arg2 harg2 arg3 harg3 arg4 harg4 arg5 harg5 arg6 harg6 arg7 harg7 arg8 harg8 X (permuted x0) x1 x2 x3 hX
    (j 0) ⟨(j 1).val / 2, by omega⟩ k0_t1_loop.trips le_rfl
  unfold interleaved written
  by_cases hp : (j 1).val % 2 = 0
  · refine (if_pos hp).trans (hs.1.trans ((terms_all x0 x1 x2 x3 0 _ _).trans ?_))
    exact Finset.sum_congr rfl fun k _ => congrArg (fun z => (x0 (ix2 (j 0) k) : EReal) * weight x1 x2 x3 z k ⟨(j 1).val / 2, by omega⟩) (Fin.ext hp.symm)
  · refine (if_neg hp).trans (hs.2.trans ((terms_all x0 x1 x2 x3 1 _ _).trans ?_))
    exact Finset.sum_congr rfl fun k _ => congrArg (fun z => (x0 (ix2 (j 0) k) : EReal) * weight x1 x2 x3 z k ⟨(j 1).val / 2, by omega⟩)
      (Fin.ext (show 1 = (j 1).val % 2 by omega))

/-- The first point's output block. -/
theorem out_first (hc0 : cond0_0 i) :
    out0_A_4 c i arg1 harg1 arg2 harg2 arg3 harg3 arg4 harg4 arg5 harg5 arg6 harg6 arg7 harg7 arg8 harg8 hc0 x0 x1 x2 x3 = written x0 x1 x2 x3 := by
  unfold out0_A_4
  rw [View.read_writes_junk_eq_canon]
  rw [pieces_first]
  refine pieces_written c i arg1 harg1 arg2 harg2 arg3 harg3 arg4 harg4 arg5 harg5 arg6 harg6 arg7 harg7 arg8 harg8 x0 x1 x2 x3 _ fun B => ?_
  rw [View.readAt_writes_junk_eq_canon, act_canon]

/-- A later point's output block. -/
theorem out_later (hc0 : ¬cond0_0 i) :
    out0_B_4 c i arg1 harg1 arg2 harg2 arg3 harg3 arg4 harg4 arg5 harg5 arg6 harg6 arg7 harg7 arg8 harg8 hc0 x0 x1 x2 x3 (permuted x0)
      = written x0 x1 x2 x3 := by
  unfold out0_B_4
  rw [View.read_writes_junk_eq_canon]
  rw [pieces_later]
  refine pieces_written c i arg1 harg1 arg2 harg2 arg3 harg3 arg4 harg4 arg5 harg5 arg6 harg6 arg7 harg7 arg8 harg8 x0 x1 x2 x3 _ fun B => ?_
  refine (show arg6.view.readAt (Elt Ideal) B (harg6.unread (permuted x0))
    = fun j => arg6.view.read (Elt Ideal) (harg6.unread (permuted x0)) (B.idx j) from rfl).trans ?_
  rw [harg6.read_unread]

/-- The first point leaves the permuted activations. -/
theorem scratch_first (hc0 : cond0_0 i) :
    sout0_A_0 c i arg1 harg1 arg2 harg2 arg3 harg3 arg4 harg4 arg5 harg5 arg6 harg6 arg7 harg7 arg8 harg8 hc0 x0 x1 x2 x3 = permuted x0 := by
  unfold sout0_A_0
  rw [View.read_writes_junk_eq_canon]
  rw [carried_first, act_canon]

end

end Cert.KernelIdeal.Rows
-- ==== Proof.Layer.lean ====
/- The layer both programs compute, written as one sum. -/
module

public import proofs.«01_k».proof.ReferenceIdeal
public import proofs.«01_k».proof.Proof.Decode

@[expose] public section

noncomputable section

namespace Cert.Layer

open Cert.ReferenceIdeal Idealize.ShloMosaic
open Cert.KernelIdeal.Rows (nibble)
open scoped BigOperators

/-- The value of a code: one of sixteen constants. -/
def codeValue (c : Fin 16) : EReal := (FloatOps.ofBits .f32 (Cert.KernelIdeal.lit0 c) : Ideal .f32)

/-- The weight of row `k` and column `C`: the value of its code, times the scale of its 64 rows. -/
def plainWeight (w : Vec Ideal S8192x22528 .i8) (s : Vec Ideal S128x45056 .f32) (k : Fin 8192) (C : Fin 45056) : EReal :=
  codeValue (nibble ⟨C.val % 2, by omega⟩ (w (ix2 k ⟨C.val / 2, by omega⟩))) * s (ix2 ⟨k.val / 64, by omega⟩ C)

/-- The layer at one row and one output column. -/
def layer (x : Vec Ideal S32x1x8192 .bf16) (w : Vec Ideal S8192x22528 .i8) (s : Vec Ideal S128x45056 .f32)
    (r : Fin 32) (C : Fin 45056) : EReal := ∑ k : Fin 8192, (x (ix3 r 0 k) : EReal) * plainWeight w s k C

end Cert.Layer

end
-- ==== Proof.Entry.lean ====
/- The arrays a grid point takes its blocks from, as the kernel's arguments determine them. -/
module

public import proofs.«01_k».proof.Proof.Block
public import proofs.«01_k».proof.Proof.Layer
public import Idealize.ShloMosaic.Lib.Pipeline.Value

@[expose] public section

noncomputable section

namespace Cert.KernelIdeal.Rows

open Cert.KernelIdeal Cert.KernelIdeal.Gen Idealize.ShloMosaic Idealize.ShloMosaic.TcCoe Idealize.ShloMosaic.Tactic
open Idealize.SL.Sem
open Cert.Layer

variable (m : (ℓ : Loc nD τ sig) → Buf (Elt Ideal) ℓ) (c : Dev nD)

/-- The activations as rows. -/
theorem activations_apply (r : Fin 32) (k : Fin 8192) :
    (V m c main_v5 : Vec Ideal S32x8192 .bf16) (ix2 r k)
      = (m ((c.tc : Thread nD τ).loc main_arg0) : Vec Ideal S32x1x8192 .bf16) (ix3 r 0 k) := by
  have e : (V m c main_v5 : Vec Ideal S32x8192 .bf16)
      = shapeCast S32x8192 (m ((c.tc : Thread nD τ).loc main_arg0) : Vec Ideal S32x1x8192 .bf16) shapeCasts_S32x1x8192_S32x8192 := by
    unfold V V0
    simp only [List.flatten_cons, List.flatten_nil, List.append_nil]
    after_results
    rfl
  rw [e]
  refine shapeCast_apply (s := S32x1x8192) (t := S32x8192) _ _ (ix2 r k) (ix3 r 0 k) ?_
  rw [Shape.rowMajor_val_three, Shape.rowMajor_val_two]
  show (r.val * 1 + 0) * 8192 + k.val = r.val * 8192 + k.val
  omega

/-- The sixteen code values as the kernel lays them out, the even codes first. -/
def laidOut : FVec Ideal S16 .f32 :=
  concatenate S16 0 [⟨S8, Host.slice S8 ![0] ![2] (fun i => FloatOps.ofBits .f32 (lit0 (S16.rowMajor i)) : FVec Ideal S16 .f32) slicesBy_S16_S8_0s2⟩,
    ⟨S8, Host.slice S8 ![1] ![2] (fun i => FloatOps.ofBits .f32 (lit0 (S16.rowMajor i)) : FVec Ideal S16 .f32) slicesBy_S16_S8_1s2⟩]
    concatenates_S8_S8_S16_d0

theorem entries_laid : (V m c main_v4 : Vec Ideal S16x128 .f32)
    = broadcastInDim S16x128 ![0, 1] bcast_S16x1_S16x128_0_1 (broadcastInDim S16x1 ![0] bcast_S16_S16x1_0 laidOut) := by
  unfold V V0
  simp only [List.flatten_cons, List.flatten_nil, List.append_nil]
  after_results
  rfl

/-- Where the value of a code stands. -/
theorem laidOut_apply (c : Fin 16) : laidOut (ix1 (entry c)) = codeValue c := by
  fin_cases c <;> rfl

/-- The table of code values the kernel reads: one row for each code, the same in every lane. -/
theorem entries_apply (e : Fin 16) (l : Fin 128) :
    (V m c main_v4 : Vec Ideal S16x128 .f32) (ix2 (entry e) l) = codeValue e := by
  rw [entries_laid]
  refine (broadcastInDim_apply (t := S16x128) _ _ _ (ix2 (entry e) l) (ix2 (entry e) (0 : Fin 1)) ?_).trans ?_
  · intro b
    match b with
    | 0 => rfl
    | 1 => rfl
  refine (broadcastInDim_apply (t := S16x1) _ _ _ (ix2 (entry e) (0 : Fin 1)) (ix1 (entry e)) ?_).trans (laidOut_apply e)
  intro b
  match b with
  | 0 => rfl

/-- The blocks' places, over the grid: the activations and the table are whole, the other windows step along the columns. -/
theorem places : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- Every point takes the activations whole. -/
theorem block0 (t : Fin cfg0.N) : (iblk m c 0 t : Vec Ideal S32x8192 .bf16) = V m c main_v5 := by
  obtain ⟨⟨e0, e1⟩, -⟩ := places t
  funext j
  show V m c main_v5 (((cfg0.win 0).blk t).view.emb j) = V m c main_v5 j
  refine congrArg (V m c main_v5) ?_
  funext a
  refine Fin.ext ?_
  match a with
  | 0 => show win0_0.index t (0 : Fin 2) * 32 + 1 * (j 0).val = (j 0).val; omega
  | 1 => show win0_0.index t (1 : Fin 2) * 8192 + 1 * (j 1).val = (j 1).val; omega

/-- Every point takes the table whole. -/
theorem block1 (t : Fin cfg0.N) : (iblk m c 1 t : Vec Ideal S16x128 .f32) = V m c main_v4 := by
  obtain ⟨-, ⟨e0, e1⟩, -⟩ := places t
  funext j
  show V m c main_v4 (((cfg0.win 1).blk t).view.emb j) = V m c main_v4 j
  refine congrArg (V m c main_v4) ?_
  funext a
  refine Fin.ext ?_
  match a with
  | 0 => show win0_1.index t (0 : Fin 2) * 16 + 1 * (j 0).val = (j 0).val; omega
  | 1 => show win0_1.index t (1 : Fin 2) * 128 + 1 * (j 1).val = (j 1).val; omega

theorem point_lt (t : Fin cfg0.N) : t.val < 88 := lt_of_lt_of_eq t.isLt N_0

/-- Point `t` takes 256 columns of bytes. -/
theorem block2 (t : Fin cfg0.N) (k : Fin 8192) (j : Fin 256) : (iblk m c 2 t : Vec Ideal S8192x256 .i8) (ix2 k j)
    = (m ((c.tc : Thread nD τ).loc main_arg1) : Vec Ideal S8192x22528 .i8)
      (ix2 k ⟨256 * t.val + j.val, by have := point_lt t; omega⟩) := by
  obtain ⟨-, -, ⟨e0, e1⟩, -⟩ := places t
  show V m c main_arg1 (((cfg0.win 2).blk t).view.emb (ix2 k j)) = _
  rw [V_main_arg1]
  refine congrArg (m ((c.tc : Thread nD τ).loc main_arg1)) ?_
  funext a
  refine Fin.ext ?_
  match a with
  | 0 => show win0_2.index t (0 : Fin 2) * 8192 + 1 * k.val = k.val; omega
  | 1 => show win0_2.index t (1 : Fin 2) * 256 + 1 * j.val = 256 * t.val + j.val; omega

/-- Point `t` takes 512 columns of scales. -/
theorem block3 (t : Fin cfg0.N) (r : Fin 128) (j : Fin 512) : (iblk m c 3 t : Vec Ideal S128x512 .f32) (ix2 r j)
    = (m ((c.tc : Thread nD τ).loc main_arg2) : Vec Ideal S128x45056 .f32)
      (ix2 r ⟨512 * t.val + j.val, by have := point_lt t; omega⟩) := by
  obtain ⟨-, -, -, ⟨e0, e1⟩, -⟩ := places t
  show V m c main_arg2 (((cfg0.win 3).blk t).view.emb (ix2 r j)) = _
  rw [V_main_arg2]
  refine congrArg (m ((c.tc : Thread nD τ).loc main_arg2)) ?_
  funext a
  refine Fin.ext ?_
  match a with
  | 0 => show win0_3.index t (0 : Fin 2) * 128 + 1 * r.val = r.val; omega
  | 1 => show win0_3.index t (1 : Fin 2) * 512 + 1 * j.val = 512 * t.val + j.val; omega

/-- The block a point writes is the layer at the point's columns. -/
theorem written_layer (t : Fin cfg0.N) (a : Fin 32) (j : Fin 512) :
    written (V m c main_v5) (V m c main_v4) (iblk m c 2 t) (iblk m c 3 t) (ix2 a j)
      = layer (m ((c.tc : Thread nD τ).loc main_arg0)) (m ((c.tc : Thread nD τ).loc main_arg1))
          (m ((c.tc : Thread nD τ).loc main_arg2)) a ⟨512 * t.val + j.val, by have := point_lt t; omega⟩ := by
  have ht := point_lt t
  refine Finset.sum_congr rfl fun k _ => congrArg₂ _ (activations_apply m c a k) ?_
  refine congrArg₂ _ ((entries_apply m c _ _).trans (congrArg codeValue ?_)) ?_
  · refine congrArg₂ nibble (Fin.ext ?_) ((block2 m c t k _).trans (congrArg (m ((c.tc : Thread nD τ).loc main_arg1)) ?_))
    · show j.val % 2 = (512 * t.val + j.val) % 2
      omega
    · refine congrArg (ix2 k) (Fin.ext ?_)
      show 256 * t.val + j.val / 2 = (512 * t.val + j.val) / 2
      omega
  · refine (block3 m c t _ _).trans (congrArg (m ((c.tc : Thread nD τ).loc main_arg2)) ?_)
    refine congrArg (ix2 _) (Fin.ext ?_)
    show 512 * t.val + (2 * (j.val / 2) + j.val % 2) = 512 * t.val + j.val
    omega

end Cert.KernelIdeal.Rows

end
-- ==== Proof.Array.lean ====
/- What the kernel's run leaves: after every grid point, in the output array, and in the result. -/
module

public import proofs.«01_k».proof.Proof.Entry

@[expose] public section

noncomputable section

namespace Cert.KernelIdeal.Rows

open Cert.KernelIdeal Cert.KernelIdeal.Gen Idealize.ShloMosaic Idealize.ShloMosaic.TcCoe Idealize.ShloMosaic.Tactic
open Idealize.SL.Sem
open Cert.Layer

variable (m : (ℓ : Loc nD τ sig) → Buf (Elt Ideal) ℓ) (ρ : Dev nD → PrngReg) (c : Dev nD)

/-- Every point hands on the permuted activations the first point stored. -/
theorem carried (n : Nat) (hn : n < cfg0.N) : (outsAt0 m c n hn).2 = permuted (V m c main_v5) := by
  induction n with
  | zero =>
    refine (congrArg Prod.snd (outsAt0_A m c ⟨0, hn⟩ rfl)).trans ?_
    refine (scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      (ms0_4 ⟨0, hn⟩) (hs0_4 ⟨0, hn⟩) scM0_0 (Memref.isWhole_whole _) scM0_1 (Memref.isWhole_whole _) scM0_2 (Memref.isWhole_whole _)
      (iblk m c 0 ⟨0, hn⟩) (iblk m c 1 ⟨0, hn⟩) (iblk m c 2 ⟨0, hn⟩) (iblk m c 3 ⟨0, hn⟩) ((hcond0_0 ⟨0, hn⟩).mpr rfl)).trans ?_
    rw [block0]
  | succ n ih =>
    have h88 : n + 1 < 88 := lt_of_lt_of_eq hn N_0
    refine (congrArg Prod.snd (outsAt0_B m c ⟨n + 1, hn⟩ (by show ¬(n + 1) % 88 = 0; omega))).trans ?_
    exact ih _

/-- The block each point leaves. -/
theorem left_apply (t : Fin cfg0.N) : (outsAt0 m c t.val t.isLt).1
    = written (V m c main_v5) (V m c main_v4) (iblk m c 2 t) (iblk m c 3 t) := by
  by_cases h0 : t.val % 88 = 0
  · refine (congrArg Prod.fst (outsAt0_A m c t h0)).trans ((out_first c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) scM0_2 (Memref.isWhole_whole _)
      (iblk m c 0 t) (iblk m c 1 t) (iblk m c 2 t) (iblk m c 3 t) ((hcond0_0 t).mpr h0)).trans ?_)
    rw [block0, block1]
  · refine (congrArg Prod.fst (outsAt0_B m c t h0)).trans ?_
    have e := carried m c (t.val - 1) (Nat.lt_of_le_of_lt (Nat.sub_le _ _) t.isLt)
    rw [← block0 m c t] at e
    dsimp only
    rw [e]
    refine (out_later c (grid0.coords t) (ms0_0 t) (hs0_0 t) (ms0_1 t) (hs0_1 t) (ms0_2 t) (hs0_2 t) (ms0_3 t) (hs0_3 t)
      (ms0_4 t) (hs0_4 t) scM0_0 (Memref.isWhole_whole _) scM0_1 (Memref.isWhole_whole _) scM0_2 (Memref.isWhole_whole _)
      (iblk m c 0 t) (iblk m c 1 t) (iblk m c 2 t) (iblk m c 3 t) (fun h => h0 ((hcond0_0 t).mp h))).trans ?_
    rw [block0, block1]

/-- The layer as the array of its rows. -/
def rows : Vec Ideal S32x45056 .bf16 := fun i =>
  layer (m ((c.tc : Thread nD τ).loc main_arg0)) (m ((c.tc : Thread nD τ).loc main_arg1))
    (m ((c.tc : Thread nD τ).loc main_arg2)) (i 0) (i 1)

/-- What a point writes back is its block of the layer. -/
theorem flushed_rows (t : Fin cfg0.N) :
    (dats m 0 c).flushed 4 t = ((cfg0.win 4).blk t).view.read (Elt Ideal) (rows m c) := by
  show (cfg0.win 4).cut (grid0.coords t) ((dats m 0 c).after 4 t) = _
  rw [after0_4, left_apply]
  have h88 := point_lt t
  obtain ⟨-, -, -, -, e0, e1⟩ := places t
  have hw : ∀ (a : Fin 32) (j : Fin 512), written (V m c main_v5) (V m c main_v4) (iblk m c 2 t) (iblk m c 3 t) (ix2 a j)
      = rows m c (ix2 a ⟨512 * t.val + j.val, by omega⟩) := written_layer m c t
  generalize written (V m c main_v5) (V m c main_v4) (iblk m c 2 t) (iblk m c 3 t) = W at hw ⊢
  generalize rows m c = R at hw ⊢
  funext y
  have hy0 : (y 0).val < 32 := (y 0).isLt
  have hy1 : (y 1).val < 512 := (y 1).isLt
  show W ((cfg0.win 4).xinj (grid0.coords t) y) = R (((cfg0.win 4).blk t).view.emb y)
  refine Eq.trans (congrArg W ?_) ((hw ⟨(y 0).val, hy0⟩ ⟨(y 1).val, hy1⟩).trans (congrArg R ?_))
  · funext a
    match a with
    | 0 => rfl
    | 1 => rfl
  · funext a
    refine Fin.ext ?_
    match a with
    | 0 => show (y 0).val = win0_4.index t (0 : Fin 2) * 32 + 1 * (y 0).val; omega
    | 1 => show 512 * t.val + (y 1).val = win0_4.index t (1 : Fin 2) * 512 + 1 * (y 1).val; omega

/-- Every point writes its block back. -/
theorem flushes : ∀ t : Fin cfg0.N, (cfg0.win 4).flush t = true :=
  (by decide +kernel : ∀ t : Fin grid0.N, win0_4.flush t = true)

/-- An index of the array is in point `t`'s block iff each coordinate is in the block's range on its axis. -/
theorem mem_block (t : Fin cfg0.N) (i : S32x45056.Idx) :
    i ∈ ((cfg0.win 4).blk t).view.set ↔ ∀ a : Fin 2, win0_4.index t a * S32x512.size a ≤ (i a).val
      ∧ (i a).val < win0_4.index t a * S32x512.size a + S32x512.size a := by
  show i ∈ ((View.whole main_v6).slice (win0_4.rect t)).set ↔ _
  rw [View.set_slice_whole, Rect.mem_set_unit]
  exact Iff.rfl

/-- The output array after the run is the layer. -/
theorem final_rows : (dats m 0 c).arrAt 4 cfg0.N = rows m c :=
  (dats m 0 c).arrAt_eq_of_cover 4 _ (fun t _ => flushed_rows m c t) (fun i => by
    have h0 : (i 0).val < 32 := (i 0).isLt
    have h1 : (i 1).val < 45056 := (i 1).isLt
    have hN : (i 1).val / 512 < cfg0.N := lt_of_lt_of_eq (by omega) N_0.symm
    refine ⟨⟨(i 1).val / 512, hN⟩, flushes _, (mem_block _ i).2 fun a => ?_⟩
    obtain ⟨-, -, -, -, e0, e1⟩ := places ⟨(i 1).val / 512, hN⟩
    match a with
    | 0 =>
      show win0_4.index ⟨(i 1).val / 512, hN⟩ (0 : Fin 2) * 32 ≤ (i 0).val
        ∧ (i 0).val < win0_4.index ⟨(i 1).val / 512, hN⟩ (0 : Fin 2) * 32 + 32
      omega
    | 1 =>
      show win0_4.index ⟨(i 1).val / 512, hN⟩ (1 : Fin 2) * 512 ≤ (i 1).val
        ∧ (i 1).val < win0_4.index ⟨(i 1).val / 512, hN⟩ (1 : Fin 2) * 512 + 512
      have e1' : win0_4.index ⟨(i 1).val / 512, hN⟩ (1 : Fin 2) = (i 1).val / 512 := e1
      omega)

/-- The result after the host's last reshape: the array's rows, one to a sequence. -/
theorem result_cast : Pipeline.afterTail₀ cfgs (dats m) 0 (V0 m) [hostOps1] c main_v7
    = shapeCast S32x1x45056 (rows m c) shapeCasts_S32x45056_S32x1x45056 := by
  have e : Pipeline.withArrays (cfgs 0).spec c (V0 m c) (fun w => (dats m 0 c).arrAt w (cfgs 0).N) (Proc.devRef .tc main_v6)
      = rows m c :=
    (Pipeline.withArrays_arr (cfgs 0).spec (by decide) c (V0 m c) (fun w => (dats m 0 c).arrAt w (cfgs 0).N) 4).trans (final_rows m c)
  unfold Pipeline.afterTail₀
  simp only [List.flatten_cons, List.flatten_nil, List.append_nil]
  after_results
  exact congrArg (fun z : Vec Ideal S32x45056 .bf16 => shapeCast S32x1x45056 z shapeCasts_S32x45056_S32x1x45056) e

/-- The result holds the layer. -/
theorem result_apply (i : S32x1x45056.Idx) :
    (Pipeline.afterTail₀ cfgs (dats m) 0 (V0 m) [hostOps1] c main_v7 : Vec Ideal S32x1x45056 .bf16) i
      = layer (m ((c.tc : Thread nD τ).loc main_arg0)) (m ((c.tc : Thread nD τ).loc main_arg1))
          (m ((c.tc : Thread nD τ).loc main_arg2)) (i 0) (i 2) := by
  rw [result_cast]
  refine shapeCast_apply (s := S32x45056) (t := S32x1x45056) _ _ i (ix2 (i 0) (i 2)) ?_
  have h1 : (i 1).val < 1 := (i 1).isLt
  refine (Shape.rowMajor_val_two _).trans (Eq.trans ?_ (Shape.rowMajor_val_three _).symm)
  show (i 0).val * 45056 + (i 2).val = ((i 0).val * 1 + (i 1).val) * 45056 + (i 2).val
  omega

/-- The kernel's run: the result holds the layer, and the arguments are as they were. -/
theorem run : θ_run defs (onTc (τ := τ) (main (F := Ideal))) ⟨m, fun _ => 0, ρ⟩ fun r => ∀ c : Dev nD,
      r.2.mem ((c.tc : Thread nD τ).loc main_v7) = (Pipeline.afterTail₀ cfgs (dats m) 0 (V0 m) [hostOps1] c main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).2 main_v7 (Pipeline.mem_restRefs_of main_v7 (by decide) (by decide)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩)
    (run_main m ρ)

end Cert.KernelIdeal.Rows

end
-- ==== Proof.Reference.lean ====
/- What the reference's result holds, index by index.

   The reference lays the two codes of a byte side by side, picks the value of a code by its four bits, scales
   it, and multiplies the activations by the weights so found. -/
module

public import proofs.«01_k».proof.Proof.Gen.ReferenceIdeal.Read
public import proofs.«01_k».proof.Proof.Layer

@[expose] public section

noncomputable section

namespace Cert.ReferenceIdeal.Rows

open Cert.ReferenceIdeal Cert.ReferenceIdeal.Gen Cert.ReferenceIdeal.Read Idealize.ShloMosaic
open Cert.KernelIdeal.Rows (nibble)
open Cert.Layer
open scoped BigOperators

theorem low_code (b : BitVec 8) : IntOp.andi (b.setWidth 32) 15#32 = BitVec.ofNat 32 (nibble 0 b).val := by
  revert b; decide +kernel

theorem high_code (b : BitVec 8) : IntOp.shrsi .host (b.setWidth 32) 4#32 = BitVec.ofNat 32 (nibble 1 b).val := by
  revert b; decide +kernel

/-- The code the reference finds at a row and a column. -/
theorem code_apply (x1 : Vec Ideal S8192x22528 .i8) (k : Fin 8192) (C : Fin 45056) :
    val_main_v8 (F := Ideal) x1 (ix2 k C)
      = BitVec.ofNat 32 (nibble ⟨C.val % 2, by omega⟩ (x1 (ix2 k ⟨C.val / 2, by omega⟩))).val := by
  have e : idx_main_v8 (ix2 k C) = ix3 k ⟨C.val / 2, by omega⟩ ⟨C.val % 2, by omega⟩ := by
    funext a
    match a with
    | 0 => exact Fin.ext (by show (k.val * 45056 + C.val) / 45056 = k.val; omega)
    | 1 => exact Fin.ext (by show (k.val * 45056 + C.val) / 2 % 22528 = C.val / 2; omega)
    | 2 => exact Fin.ext (by show (k.val * 45056 + C.val) % 2 = C.val % 2; omega)
  rw [val_main_v8_apply, e]
  have e1 : ∀ j : Fin 22528, ∀ z : S8192x22528.Idx, z 0 = k → z 1 = j → z = ix2 k j := by
    intro j z h0 h1
    funext a
    match a with
    | 0 => exact h0
    | 1 => exact h1
  have hv : C.val % 2 < 2 := by omega
  have hu : C.val / 2 < 22528 := by omega
  unfold val_main_v7
  generalize hu' : (⟨C.val / 2, _⟩ : Fin 22528) = u
  generalize hv' : (⟨C.val % 2, _⟩ : Fin 2) = v
  rcases Nat.mod_two_eq_zero_or_one C.val with h | h
  · refine (concatenate_pair_apply_left (t := S8192x22528x2) (s₁ := S8192x22528x1) (s₂ := S8192x22528x1) _ _ _ _ (ix3 k u v) rfl
      (ix3 k u (0 : Fin 1)) (fun b => ?_)).trans ?_
    · match b with
      | 0 => rfl
      | 1 => rfl
      | 2 => exact (congrArg Fin.val hv'.symm).trans h |>.symm
    · rw [val_main_v5_apply, val_main_v2_apply, val_main_v1_apply, val_main_c_apply, val_main_v0_apply]
      refine (low_code _).trans ?_
      rw [show v = 0 from hv'.symm.trans (Fin.ext h)]
      exact congrArg (fun z => BitVec.ofNat 32 (nibble 0 (x1 z)).val) (e1 _ _ rfl rfl)
  · refine (concatenate_pair_apply_right (t := S8192x22528x2) (s₁ := S8192x22528x1) (s₂ := S8192x22528x1) _ _ _ _ (ix3 k u v) rfl rfl
      (ix3 k u (0 : Fin 1)) (fun b hb => ?_) ?_).trans ?_
    · match b with
      | 0 => rfl
      | 1 => rfl
      | 2 => exact absurd rfl hb
    · show 0 + 1 = v.val
      rw [← hv']; exact h.symm
    · rw [val_main_v6_apply, val_main_v4_apply, val_main_v3_apply, val_main_c_0_apply, val_main_v0_apply]
      refine (high_code _).trans ?_
      rw [show v = 1 from hv'.symm.trans (Fin.ext h)]
      exact congrArg (fun z => BitVec.ofNat 32 (nibble 1 (x1 z)).val) (e1 _ _ rfl rfl)

/-- The value the reference picks by the four bits of a code. -/
theorem pick_apply (x1 : Vec Ideal S8192x22528 .i8) (i : S8192x45056.Idx) (c : Fin 16)
    (h : val_main_v8 (F := Ideal) x1 i = BitVec.ofNat 32 c.val) :
    val_main_v47 (F := Ideal) x1 i = codeValue c := by
  simp only [h,
    val_main_c_1_apply, val_main_v9_apply, val_main_v10_apply, val_main_c_2_apply, val_main_v11_apply,
    val_main_v12_apply, val_main_c_3_apply, val_main_v13_apply, val_main_v14_apply, val_main_cst_apply,
    val_main_cst_4_apply, val_main_call0_v0_apply, val_main_call0_v1_apply, val_main_v15_apply,
    val_main_cst_5_apply, val_main_cst_6_apply, val_main_call1_v0_apply, val_main_call1_v1_apply,
    val_main_v16_apply, val_main_cst_7_apply, val_main_cst_8_apply, val_main_call2_v0_apply,
    val_main_call2_v1_apply, val_main_v17_apply, val_main_cst_9_apply, val_main_cst_10_apply,
    val_main_call3_v0_apply, val_main_call3_v1_apply, val_main_v18_apply, val_main_cst_11_apply,
    val_main_cst_12_apply, val_main_call4_v0_apply, val_main_call4_v1_apply, val_main_v19_apply,
    val_main_cst_13_apply, val_main_cst_14_apply, val_main_call5_v0_apply, val_main_call5_v1_apply,
    val_main_v20_apply, val_main_cst_15_apply, val_main_cst_16_apply, val_main_call6_v0_apply,
    val_main_call6_v1_apply, val_main_v21_apply, val_main_cst_17_apply, val_main_cst_18_apply,
    val_main_call7_v0_apply, val_main_call7_v1_apply, val_main_v22_apply, val_main_c_19_apply,
    val_main_v23_apply, val_main_v24_apply, val_main_c_20_apply, val_main_v25_apply, val_main_v26_apply,
    val_main_c_21_apply, val_main_v27_apply, val_main_v28_apply, val_main_v29_apply, val_main_v30_apply,
    val_main_v31_apply, val_main_v32_apply, val_main_c_22_apply, val_main_v33_apply, val_main_v34_apply,
    val_main_c_23_apply, val_main_v35_apply, val_main_v36_apply, val_main_c_24_apply, val_main_v37_apply,
    val_main_v38_apply, val_main_v39_apply, val_main_v40_apply, val_main_c_25_apply, val_main_v41_apply,
    val_main_v42_apply, val_main_c_26_apply, val_main_v43_apply, val_main_v44_apply, val_main_c_27_apply,
    val_main_v45_apply, val_main_v46_apply, val_main_v47_apply]
  fin_cases c <;> rfl

/-- The reference's weights. -/
theorem weights_apply (x1 : Vec Ideal S8192x22528 .i8) (x2 : Vec Ideal S128x45056 .f32) (k : Fin 8192) (C : Fin 45056) :
    val_main_v53 (F := Ideal) x1 x2 (ix2 k C) = plainWeight x1 x2 k C := by
  rw [val_main_v53_apply, val_main_v52_apply]
  show val_main_v51 (F := Ideal) x1 x2 (idx_main_v52 (ix2 k C)) = _
  rw [val_main_v51_apply, val_main_v48_apply, val_main_v50_apply, val_main_v49_apply]
  show val_main_v47 (F := Ideal) x1 _ * x2 _ = _
  refine congrArg₂ _ (pick_apply x1 _ _ ?_) (congrArg x2 ?_)
  · refine (congrArg (val_main_v8 (F := Ideal) x1) ?_).trans (code_apply x1 k C)
    funext a
    match a with
    | 0 => exact Fin.ext (by
        show ((((k.val * 45056 + C.val) / 2883584) * 64 + (k.val * 45056 + C.val) / 45056 % 64) * 45056
          + (k.val * 45056 + C.val) % 45056) / 45056 = k.val
        omega)
    | 1 => exact Fin.ext (by
        show ((((k.val * 45056 + C.val) / 2883584) * 64 + (k.val * 45056 + C.val) / 45056 % 64) * 45056
          + (k.val * 45056 + C.val) % 45056) % 45056 = C.val
        omega)
  · funext a
    match a with
    | 0 => exact Fin.ext (by show (k.val * 45056 + C.val) / 2883584 = k.val / 64; omega)
    | 1 => exact Fin.ext (by show (k.val * 45056 + C.val) % 45056 = C.val; omega)

/-- The reference's matrix product is the layer. -/
theorem product_apply (x0 : Vec Ideal S32x1x8192 .bf16) (x1 : Vec Ideal S8192x22528 .i8) (x2 : Vec Ideal S128x45056 .f32)
    (r : Fin 32) (C : Fin 45056) : val_main_v55 (F := Ideal) x0 x1 x2 (ix2 r C) = layer x0 x1 x2 r C := by
  rw [val_main_v55_apply]
  refine Finset.sum_congr rfl fun k _ => congrArg₂ _ ?_ ?_
  · rw [val_main_v54_apply]
    refine congrArg x0 ?_
    funext a
    match a with
    | 0 => exact Fin.ext (by show (r.val * 8192 + k.val) / 8192 = r.val; omega)
    | 1 => rfl
    | 2 => exact Fin.ext (by show (r.val * 8192 + k.val) % 8192 = k.val; omega)
  · refine (congrArg (val_main_v53 (F := Ideal) x1 x2) ?_).trans (weights_apply x1 x2 k C)
    funext a
    match a with
    | 0 => rfl
    | 1 => rfl

/-- The reference's result is the layer. -/
theorem result_apply (x0 : Vec Ideal S32x1x8192 .bf16) (x1 : Vec Ideal S8192x22528 .i8) (x2 : Vec Ideal S128x45056 .f32)
    (i : S32x1x45056.Idx) : val_main_v57 (F := Ideal) x0 x1 x2 i = layer x0 x1 x2 (i 0) (i 2) := by
  have h0 : (i 0).val < 32 := (i 0).isLt
  have h1 : (i 1).val < 1 := (i 1).isLt
  have h2 : (i 2).val < 45056 := (i 2).isLt
  rw [val_main_v57_apply]
  refine (congrArg (val_main_v55 (F := Ideal) x0 x1 x2) ?_).trans (product_apply x0 x1 x2 ⟨(i 0).val, h0⟩ ⟨(i 2).val, h2⟩)
  funext a
  match a with
  | 0 => exact Fin.ext (by show (((i 0).val * 1 + (i 1).val) * 45056 + (i 2).val) / 45056 = (i 0).val; omega)
  | 1 => exact Fin.ext (by show (((i 0).val * 1 + (i 1).val) * 45056 + (i 2).val) % 45056 = (i 2).val; omega)

end Cert.ReferenceIdeal.Rows

end
-- ==== Proof.Equation.lean ====
/- The equation: the idealized kernel and the idealized reference end with the same result. -/
module

public import proofs.«01_k».proof.Proof.Claims
public import proofs.«01_k».proof.Proof.Array
public import proofs.«01_k».proof.Proof.Reference

@[expose] public section

noncomputable section

namespace Cert.Claims

open Idealize.ShloMosaic Idealize.SL.Sem

/-- From equal arguments the two programs end with the same result: both hold the layer. -/
theorem algebraic : Cert.algebraic_KernelIdeal_ReferenceIdeal := by
  intro m g m' g' _ hargs
  refine ⟨_, Cert.KernelIdeal.Rows.run m g, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hargs c
  refine (Cert.ReferenceIdeal.Read.val_main_v57_eq m' c).trans ?_
  rw [h0, h1, h2]
  funext i
  exact (Cert.ReferenceIdeal.Rows.result_apply _ _ _ i).trans (Cert.KernelIdeal.Rows.result_apply m c i).symm

end Cert.Claims

end
-- ==== Proof.lean ====
/- Every claim about the kernel, put together from the modules under proof/Proof/. -/
module

public import proofs.«01_k».proof.Defs
public import proofs.«01_k».proof.Proof.Claims
public import proofs.«01_k».proof.Proof.Equation
public import Idealize.ShloMosaic.Adequacy
public import Idealize.ShloMosaic.Init

@[expose] public section

noncomputable section

namespace Cert.Proof

/-- The kernel's claim: the frames of the three programs, what the idealized kernel keeps, and the equation
    of its result with the reference's. -/
theorem claim : Cert.Claim := ⟨Cert.Kernel.Gen.facts, Cert.KernelIdeal.Gen.facts, Cert.ReferenceIdeal.Gen.facts,
  Claims.frame_kernel, Claims.frame_kernelIdeal, Claims.frame_referenceIdeal, Claims.preserves, Claims.algebraic⟩

end Cert.Proof

end
